-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_banded [hPre_banded : Cert.Pre_banded.Facts] (m : (ℓ : Loc Cert.KernelIdeal.nD Cert.KernelIdeal.τ Cert.KernelIdeal.sig) → Buf (Elt Ideal) ℓ) : Prop :=
  ∀ c : Dev Cert.KernelIdeal.nD,
    (Cert.Pre_banded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_banded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_banded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_banded [hPre_banded : Cert.Pre_banded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_banded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_banded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_banded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_banded [hKernelIdeal : Cert.KernelIdeal.Facts] [hPre_banded : Cert.Pre_banded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_banded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_banded [hReferenceIdeal : Cert.ReferenceIdeal.Facts] [hPre_banded : Cert.Pre_banded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_banded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_banded [hKernelIdeal : Cert.KernelIdeal.Facts] [hReferenceIdeal : Cert.ReferenceIdeal.Facts] [hPre_banded : Cert.Pre_banded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_banded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "scale_log2e" .f32 0x3E0293EE#32 (((Real.sqrt 128)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_v46) = v3 c
          ∧ r.2.mem ((c.tc : Thread Cert.Reference3Ideal.nD Cert.Reference3Ideal.τ).loc Cert.Reference3Ideal.main_v47) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_v24) = v4 c
          ∧ r.2.mem ((c.tc : Thread Cert.Reference4Ideal.nD Cert.Reference4Ideal.τ).loc Cert.Reference4Ideal.main_v25) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_banded : Cert.Pre_banded.Facts),
    quiescent_Kernel (hKernel := hKernel)
    ∧ quiescent_KernelIdeal (hKernelIdeal := hKernelIdeal)
    ∧ quiescent_KernelIdeal_pre_banded (hKernelIdeal := hKernelIdeal) (hPre_banded := hPre_banded)
    ∧ quiescent_ReferenceIdeal (hReferenceIdeal := hReferenceIdeal)
    ∧ quiescent_ReferenceIdeal_pre_banded (hReferenceIdeal := hReferenceIdeal) (hPre_banded := hPre_banded)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_banded (hKernelIdeal := hKernelIdeal) (hReferenceIdeal := hReferenceIdeal) (hPre_banded := hPre_banded)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_banded.lean ====
abbrev S8x2048x1024 : Shape := ⟨3, ![8, 2048, 1024]⟩
abbrev S3x8x256x768 : Shape := ⟨4, ![3, 8, 256, 768]⟩
abbrev S1024 : Shape := ⟨1, ![1024]⟩
abbrev S_ : Shape := ⟨0, ![]⟩
abbrev S1x8x256x768 : Shape := ⟨4, ![1, 8, 256, 768]⟩

class Facts : Prop where
  bcast_S_S3x8x256x768 : S_.BroadcastsInDim S3x8x256x768 (![] : Fin 0 → Fin S3x8x256x768.rank)
  slices_S3x8x256x768_S1x8x256x768_2_0_0_0 : S3x8x256x768.Slices ![2, 0, 0, 0] S1x8x256x768
  bcast_S1x8x256x768_S3x8x256x768_0_1_2_3 : S1x8x256x768.BroadcastsInDim S3x8x256x768 (![0, 1, 2, 3] : Fin 4 → Fin S3x8x256x768.rank)
  bitsLt_bf16_f32 : FTy.bits .bf16 < FTy.bits .f32
  bcast_S_S8x2048x1024 : S_.BroadcastsInDim S8x2048x1024 (![] : Fin 0 → Fin S8x2048x1024.rank)

variable [Facts]

def fn_where {F : FTy → Type} [FloatOps F] (arg0 : IVec S3x8x256x768 1) (arg1 : IVec S3x8x256x768 32) (arg2 : IVec S3x8x256x768 32) : IVec S3x8x256x768 32 :=
  let v0 : IVec S3x8x256x768 32 := select arg0 arg1 arg2
  v0

def fn_floor_divide {F : FTy → Type} [FloatOps F] (arg0 : IVec S3x8x256x768 32) (arg1 : IVec S_ 32) : IVec S3x8x256x768 32 :=
  let v0 : IVec S_ 32 := id arg1
  let v1 : IVec S3x8x256x768 32 := broadcastInDim S3x8x256x768 ![] bcast_S_S3x8x256x768 v0
  let v2 : IVec S3x8x256x768 32 := Host.divsi arg0 v1
  let v3 : IVec S3x8x256x768 32 := signi arg0
  let v4 : IVec S_ 32 := signi v0
  let v5 : IVec S3x8x256x768 32 := broadcastInDim S3x8x256x768 ![] bcast_S_S3x8x256x768 v4
  let v6 : IVec S3x8x256x768 1 := cmpi .ne v3 v5
  let v7 : IVec S3x8x256x768 32 := broadcastInDim S3x8x256x768 ![] bcast_S_S3x8x256x768 v0
  let v8 : IVec S3x8x256x768 32 := Host.remsi arg0 v7
  let c : IVec S_ 32 := constantI S_ 32 0#32
  let v9 : IVec S3x8x256x768 32 := broadcastInDim S3x8x256x768 ![] bcast_S_S3x8x256x768 c
  let v10 : IVec S3x8x256x768 1 := cmpi .ne v8 v9
  let v11 : IVec S3x8x256x768 1 := andi v6 v10
  let c_0 : IVec S_ 32 := constantI S_ 32 1#32
  let v12 : IVec S3x8x256x768 32 := broadcastInDim S3x8x256x768 ![] bcast_S_S3x8x256x768 c_0
  let v13 : IVec S3x8x256x768 32 := subi v2 v12
  let v14 : IVec S3x8x256x768 32 := fn_where (F := F) v11 v13 v2
  v14

def fn_where_0 {F : FTy → Type} [FloatOps F] (arg0 : IVec S3x8x256x768 1) (arg1 : IVec S3x8x256x768 1) (arg2 : IVec S3x8x256x768 1) : IVec S3x8x256x768 1 :=
  let v0 : IVec S3x8x256x768 1 := select arg0 arg1 arg2
  v0

def fn_part1 {F : FTy → Type} [FloatOps F] (main_arg0 : FVec F S8x2048x1024 .bf16) (main_arg1 : FVec F S8x2048x1024 .bf16) (main_arg3 : FVec F S3x8x256x768 .f32) (main_v16 : IVec S3x8x256x768 1) (main_v17 : FVec F S1x8x256x768 .f32) : IVec S8x2048x1024 1 × IVec S8x2048x1024 1 × IVec S3x8x256x768 1 :=
  let main_v18 : FVec F S3x8x256x768 .f32 := broadcastInDim S3x8x256x768 ![0, 1, 2, 3] bcast_S1x8x256x768_S3x8x256x768_0_1_2_3 main_v17
  let main_v19 : FVec F S3x8x256x768 .f32 := Host.absf main_arg3
  let main_cst : FVec F S_ .f32 := constant S_ .f32 0x7F800000#32
  let main_v20 : FVec F S3x8x256x768 .f32 := broadcastInDim S3x8x256x768 ![] bcast_S_S3x8x256x768 main_cst
  let main_v21 : IVec S3x8x256x768 1 := cmpf .olt main_v19 main_v20
  let main_v22 : IVec S3x8x256x768 1 := cmpf .oeq main_arg3 main_v18
  let main_v23 : IVec S3x8x256x768 1 := andi main_v21 main_v22
  let main_cst_5 : FVec F S_ .f32 := constant S_ .f32 0xFF800000#32
  let main_v24 : FVec F S3x8x256x768 .f32 := broadcastInDim S3x8x256x768 ![] bcast_S_S3x8x256x768 main_cst_5
  let main_v25 : IVec S3x8x256x768 1 := cmpf .oeq main_arg3 main_v24
  let main_v26 : IVec S3x8x256x768 1 := fn_where_0 (F := F) main_v16 main_v23 main_v25
  let main_v27 : FVec F S8x2048x1024 .f32 := (extf .f32 · bitsLt_bf16_f32) main_arg0
  let main_v28 : FVec F S8x2048x1024 .f32 := Host.absf main_v27
  let main_cst_6 : FVec F S_ .f32 := constant S_ .f32 0x7F800000#32
  let main_v29 : FVec F S8x2048x1024 .f32 := broadcastInDim S8x2048x1024 ![] bcast_S_S8x2048x1024 main_cst_6
  let main_v30 : IVec S8x2048x1024 1 := cmpf .olt main_v28 main_v29
  let main_v31 : FVec F S8x2048x1024 .f32 := (extf .f32 · bitsLt_bf16_f32) main_arg1
  let main_v32 : FVec F S8x2048x1024 .f32 := Host.absf main_v31
  let main_cst_7 : FVec F S_ .f32 := constant S_ .f32 0x7F800000#32
  let main_v33 : FVec F S8x2048x1024 .f32 := broadcastInDim S8x2048x1024 ![] bcast_S_S8x2048x1024 main_cst_7
  let main_v34 : IVec S8x2048x1024 1 := cmpf .olt main_v32 main_v33
  (main_v30, main_v34, main_v26)

def fn {F : FTy → Type} [FloatOps F] (main_arg0 : FVec F S8x2048x1024 .bf16) (main_arg1 : FVec F S8x2048x1024 .bf16) (main_arg2 : FVec F S8x2048x1024 .bf16) (main_arg3 : FVec F S3x8x256x768 .f32) (main_arg4 : FVec F S1024 .f32) : IVec S8x2048x1024 1 × IVec S8x2048x1024 1 × IVec S3x8x256x768 1 :=
  let main_v0 : IVec S3x8x256x768 32 := iotaInDim S3x8x256x768 32 2
  let main_c : IVec S_ 32 := constantI S_ 32 64#32
  let main_v1 : IVec S3x8x256x768 32 := fn_floor_divide (F := F) main_v0 main_c
  let main_v2 : IVec S3x8x256x768 32 := iotaInDim S3x8x256x768 32 3
  let main_v3 : IVec S3x8x256x768 32 := iotaInDim S3x8x256x768 32 0
  let main_c_0 : IVec S_ 32 := constantI S_ 32 64#32
  let main_v4 : IVec S3x8x256x768 32 := fn_floor_divide (F := F) main_v2 main_c_0
  let main_v5 : IVec S3x8x256x768 1 := cmpi .sge main_v4 main_v1
  let main_c_1 : IVec S_ 32 := constantI S_ 32 64#32
  let main_v6 : IVec S3x8x256x768 32 := fn_floor_divide (F := F) main_v2 main_c_1
  let main_c_2 : IVec S_ 32 := constantI S_ 32 8#32
  let main_v7 : IVec S3x8x256x768 32 := broadcastInDim S3x8x256x768 ![] bcast_S_S3x8x256x768 main_c_2
  let main_v8 : IVec S3x8x256x768 32 := addi main_v1 main_v7
  let main_v9 : IVec S3x8x256x768 1 := cmpi .sle main_v6 main_v8
  let main_v10 : IVec S3x8x256x768 1 := andi main_v5 main_v9
  let main_c_3 : IVec S_ 32 := constantI S_ 32 2#32
  let main_v11 : IVec S3x8x256x768 32 := broadcastInDim S3x8x256x768 ![] bcast_S_S3x8x256x768 main_c_3
  let main_v12 : IVec S3x8x256x768 32 := subi main_v11 main_v3
  let main_c_4 : IVec S_ 32 := constantI S_ 32 256#32
  let main_v13 : IVec S3x8x256x768 32 := broadcastInDim S3x8x256x768 ![] bcast_S_S3x8x256x768 main_c_4
  let main_v14 : IVec S3x8x256x768 32 := muli main_v12 main_v13
  let main_v15 : IVec S3x8x256x768 1 := cmpi .sge main_v2 main_v14
  let main_v16 : IVec S3x8x256x768 1 := andi main_v10 main_v15
  let main_v17 : FVec F S1x8x256x768 .f32 := (extractStridedSlice S1x8x256x768 ![2, 0, 0, 0] · slices_S3x8x256x768_S1x8x256x768_2_0_0_0) main_arg3
  fn_part1 (F := F) main_arg0 main_arg1 main_arg3 main_v16 main_v17
-- ==== Kernel.lean ====
abbrev S8x2048x1024 : Shape := ⟨3, ![8, 2048, 1024]⟩
abbrev S3x8x256x768 : Shape := ⟨4, ![3, 8, 256, 768]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S8x1024x256 : Shape := ⟨3, ![8, 1024, 256]⟩
abbrev S8x1024x128 : Shape := ⟨3, ![8, 1024, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S256x768 : Shape := ⟨2, ![256, 768]⟩
abbrev S1x768x256 : Shape := ⟨3, ![1, 768, 256]⟩
abbrev S768x256 : Shape := ⟨2, ![768, 256]⟩
abbrev S256x1024 : Shape := ⟨2, ![256, 1024]⟩
abbrev S1x256x1024 : Shape := ⟨3, ![1, 256, 1024]⟩

abbrev nBuf : Space → Nat
  | .hbm => 7
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x1024, .bf16⟩
  | .hbm, ⟨3, _⟩ => ⟨S3x8x256x768, .f32⟩
  | .hbm, ⟨4, _⟩ => ⟨S1024, .f32⟩
  | .hbm, ⟨5, _⟩ => ⟨S1x1024, .f32⟩
  | .hbm, ⟨6, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S3x8x256x768, .f32⟩
  | .local _ .vmem, ⟨11, _⟩ => ⟨S1x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S8x1024x256, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def k0_off1 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v93 : Index := Scalar.indexCast v87
  let c0_91 : Index := 0#32
  let c0_92 : Index := 0#32
  let c0_93 : Index := 0#32
  ![v93.toNat, 0, 0, 0]
def k0_off2 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v100 : Index := Scalar.indexCast v87
  let c0_98 : Index := 0#32
  let c0_99 : Index := 0#32
  let c256_100 : Index := 256#32
  ![v100.toNat, 0, 0, 256]
def k0_off3 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v107 : Index := Scalar.indexCast v87
  let c0_105 : Index := 0#32
  let c0_106 : Index := 0#32
  let c512_107 : Index := 512#32
  ![v107.toNat, 0, 0, 512]
def k0_off4 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v146 : Index := Scalar.indexCast v87
  let c1_124 : Index := 1#32
  let c0_125 : Index := 0#32
  let c0_126 : Index := 0#32
  ![v146.toNat, 1, 0, 0]
def k0_off5 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v153 : Index := Scalar.indexCast v87
  let c1_131 : Index := 1#32
  let c0_132 : Index := 0#32
  let c256_133 : Index := 256#32
  ![v153.toNat, 1, 0, 256]
def k0_off6 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v160 : Index := Scalar.indexCast v87
  let c1_138 : Index := 1#32
  let c0_139 : Index := 0#32
  let c512_140 : Index := 512#32
  ![v160.toNat, 1, 0, 512]
def k0_off7 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v199 : Index := Scalar.indexCast v87
  let c2_157 : Index := 2#32
  let c0_158 : Index := 0#32
  let c0_159 : Index := 0#32
  ![v199.toNat, 2, 0, 0]
def k0_off8 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v206 : Index := Scalar.indexCast v87
  let c2_164 : Index := 2#32
  let c0_165 : Index := 0#32
  let c256_166 : Index := 256#32
  ![v206.toNat, 2, 0, 256]
def k0_off9 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v213 : Index := Scalar.indexCast v87
  let c2_171 : Index := 2#32
  let c0_172 : Index := 0#32
  let c512_173 : Index := 512#32
  ![v213.toNat, 2, 0, 512]
def k0_off10 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v252 : Index := Scalar.indexCast v87
  let c3_190 : Index := 3#32
  let c0_191 : Index := 0#32
  let c0_192 : Index := 0#32
  ![v252.toNat, 3, 0, 0]
def k0_off11 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v259 : Index := Scalar.indexCast v87
  let c3_197 : Index := 3#32
  let c0_198 : Index := 0#32
  let c256_199 : Index := 256#32
  ![v259.toNat, 3, 0, 256]
def k0_off12 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v266 : Index := Scalar.indexCast v87
  let c3_204 : Index := 3#32
  let c0_205 : Index := 0#32
  let c512_206 : Index := 512#32
  ![v266.toNat, 3, 0, 512]
def k0_off13 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v305 : Index := Scalar.indexCast v87
  let c4_223 : Index := 4#32
  let c0_224 : Index := 0#32
  let c0_225 : Index := 0#32
  ![v305.toNat, 4, 0, 0]
def k0_off14 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v312 : Index := Scalar.indexCast v87
  let c4_230 : Index := 4#32
  let c0_231 : Index := 0#32
  let c256_232 : Index := 256#32
  ![v312.toNat, 4, 0, 256]
def k0_off15 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v319 : Index := Scalar.indexCast v87
  let c4_237 : Index := 4#32
  let c0_238 : Index := 0#32
  let c512_239 : Index := 512#32
  ![v319.toNat, 4, 0, 512]
def k0_off16 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v358 : Index := Scalar.indexCast v87
  let c5_256 : Index := 5#32
  let c0_257 : Index := 0#32
  let c0_258 : Index := 0#32
  ![v358.toNat, 5, 0, 0]
def k0_off17 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v365 : Index := Scalar.indexCast v87
  let c5_263 : Index := 5#32
  let c0_264 : Index := 0#32
  let c256_265 : Index := 256#32
  ![v365.toNat, 5, 0, 256]
def k0_off18 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v372 : Index := Scalar.indexCast v87
  let c5_270 : Index := 5#32
  let c0_271 : Index := 0#32
  let c512_272 : Index := 512#32
  ![v372.toNat, 5, 0, 512]
def k0_off19 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v411 : Index := Scalar.indexCast v87
  let c6_289 : Index := 6#32
  let c0_290 : Index := 0#32
  let c0_291 : Index := 0#32
  ![v411.toNat, 6, 0, 0]
def k0_off20 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v418 : Index := Scalar.indexCast v87
  let c6_296 : Index := 6#32
  let c0_297 : Index := 0#32
  let c256_298 : Index := 256#32
  ![v418.toNat, 6, 0, 256]
def k0_off21 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v425 : Index := Scalar.indexCast v87
  let c6_303 : Index := 6#32
  let c0_304 : Index := 0#32
  let c512_305 : Index := 512#32
  ![v425.toNat, 6, 0, 512]
def k0_off22 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v464 : Index := Scalar.indexCast v87
  let c7_322 : Index := 7#32
  let c0_323 : Index := 0#32
  let c0_324 : Index := 0#32
  ![v464.toNat, 7, 0, 0]
def k0_off23 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v471 : Index := Scalar.indexCast v87
  let c7_329 : Index := 7#32
  let c0_330 : Index := 0#32
  let c256_331 : Index := 256#32
  ![v471.toNat, 7, 0, 256]
def k0_off24 (i : grid0.Coords) (c0_i32_83 : BitVec 32) : Fin 4 → Nat :=
  let arg1 : BitVec 32 := BitVec.ofNat 32 (i 1).val
  let c2_i32 : BitVec 32 := 2#32
  let v85 : BitVec 32 := Scalar.muli arg1 c2_i32
  let v86 : BitVec 32 := Scalar.addi v85 c0_i32_83
  let c2_i32_84 : BitVec 32 := 2#32
  let v87 : BitVec 32 := Scalar.minsi v86 c2_i32_84
  let v478 : Index := Scalar.indexCast v87
  let c7_336 : Index := 7#32
  let c0_337 : Index := 0#32
  let c512_338 : Index := 512#32
  ![v478.toNat, 7, 0, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S3x8x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8x2048x1024 : Shape := ⟨3, ![8, 2048, 1024]⟩
abbrev S3x8x256x768 : Shape := ⟨4, ![3, 8, 256, 768]⟩
abbrev S1024 : Shape := ⟨1, ![1024]⟩
abbrev S8x32x64x8x128 : Shape := ⟨5, ![8, 32, 64, 8, 128]⟩
abbrev S_ : Shape := ⟨0, ![]⟩
abbrev S8x40x64x8x128 : Shape := ⟨5, ![8, 40, 64, 8, 128]⟩
abbrev S8x32x576x8x128 : Shape := ⟨5, ![8, 32, 576, 8, 128]⟩
abbrev S8x8x32x64x576 : Shape := ⟨5, ![8, 8, 32, 64, 576]⟩
abbrev S1x8x64x576 : Shape := ⟨4, ![1, 8, 64, 576]⟩
abbrev S8x64x576 : Shape := ⟨3, ![8, 64, 576]⟩
abbrev S8x1x64x576 : Shape := ⟨4, ![8, 1, 64, 576]⟩
abbrev S8x4x64x576 : Shape := ⟨4, ![8, 4, 64, 576]⟩
abbrev S8x8x8x4x64x576 : Shape := ⟨6, ![8, 8, 8, 4, 64, 576]⟩
abbrev S1x8x1x4x64x576 : Shape := ⟨6, ![1, 8, 1, 4, 64, 576]⟩
abbrev S32 : Shape := ⟨1, ![32]⟩
abbrev S32x1 : Shape := ⟨2, ![32, 1]⟩
abbrev S576 : Shape := ⟨1, ![576]⟩
abbrev S1x576 : Shape := ⟨2, ![1, 576]⟩
abbrev S32x576 : Shape := ⟨2, ![32, 576]⟩
abbrev S1x1x32x1x576 : Shape := ⟨5, ![1, 1, 32, 1, 576]⟩
abbrev S8x8x32x64 : Shape := ⟨4, ![8, 8, 32, 64]⟩
abbrev S8x8x32x64x1 : Shape := ⟨5, ![8, 8, 32, 64, 1]⟩
abbrev S8x32x8x128x64 : Shape := ⟨5, ![8, 32, 8, 128, 64]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 131
  | .vmem => 0
  | .smem => 0
  | _ => 0

abbrev hbmTy0_0 (i : Nat) : BufTy := match i % 128 with
  | 0 => ⟨S8x2048x1024, .bf16⟩
  | 1 => ⟨S8x2048x1024, .bf16⟩
  | 2 => ⟨S8x2048x1024, .bf16⟩
  | 3 => ⟨S3x8x256x768, .f32⟩
  | 4 => ⟨S1024, .f32⟩
  | 5 => ⟨S8x2048x1024, .f32⟩
  | 6 => ⟨S8x32x64x8x128, .f32⟩
  | 7 => ⟨S8x2048x1024, .f32⟩
  | 8 => ⟨S8x32x64x8x128, .f32⟩
  | 9 => ⟨S_, .i32⟩
  | 10 => ⟨S_, .f32⟩
  | 11 => ⟨S8x40x64x8x128, .f32⟩
  | 12 => ⟨S8x2048x1024, .f32⟩
  | 13 => ⟨S8x32x64x8x128, .f32⟩
  | 14 => ⟨S_, .i32⟩
  | 15 => ⟨S_, .f32⟩
  | 16 => ⟨S8x40x64x8x128, .f32⟩
  | 17 => ⟨S8x32x64x8x128, .f32⟩
  | 18 => ⟨S8x32x64x8x128, .f32⟩
  | 19 => ⟨S8x32x64x8x128, .f32⟩
  | 20 => ⟨S8x32x64x8x128, .f32⟩
  | 21 => ⟨S8x32x64x8x128, .f32⟩
  | 22 => ⟨S8x32x64x8x128, .f32⟩
  | 23 => ⟨S8x32x64x8x128, .f32⟩
  | 24 => ⟨S8x32x64x8x128, .f32⟩
  | 25 => ⟨S8x32x64x8x128, .f32⟩
  | 26 => ⟨S8x32x576x8x128, .f32⟩
  | 27 => ⟨S8x32x64x8x128, .f32⟩
  | 28 => ⟨S8x32x64x8x128, .f32⟩
  | 29 => ⟨S8x32x64x8x128, .f32⟩
  | 30 => ⟨S8x32x64x8x128, .f32⟩
  | 31 => ⟨S8x32x64x8x128, .f32⟩
  | 32 => ⟨S8x32x64x8x128, .f32⟩
  | 33 => ⟨S8x32x64x8x128, .f32⟩
  | 34 => ⟨S8x32x64x8x128, .f32⟩
  | 35 => ⟨S8x32x64x8x128, .f32⟩
  | 36 => ⟨S8x32x576x8x128, .f32⟩
  | 37 => ⟨S8x8x32x64x576, .f32⟩
  | 38 => ⟨S1x8x64x576, .f32⟩
  | 39 => ⟨S8x64x576, .f32⟩
  | 40 => ⟨S8x1x64x576, .f32⟩
  | 41 => ⟨S1x8x64x576, .f32⟩
  | 42 => ⟨S8x64x576, .f32⟩
  | 43 => ⟨S8x1x64x576, .f32⟩
  | 44 => ⟨S1x8x64x576, .f32⟩
  | 45 => ⟨S8x64x576, .f32⟩
  | 46 => ⟨S8x1x64x576, .f32⟩
  | 47 => ⟨S1x8x64x576, .f32⟩
  | 48 => ⟨S8x64x576, .f32⟩
  | 49 => ⟨S8x1x64x576, .f32⟩
  | 50 => ⟨S8x4x64x576, .f32⟩
  | 51 => ⟨S8x8x8x4x64x576, .f32⟩
  | 52 => ⟨S1x8x1x4x64x576, .f32⟩
  | 53 => ⟨S8x8x8x4x64x576, .f32⟩
  | 54 => ⟨S8x8x8x4x64x576, .f32⟩
  | 55 => ⟨S8x8x32x64x576, .f32⟩
  | 56 => ⟨S_, .f32⟩
  | 57 => ⟨S_, .f32⟩
  | 58 => ⟨S8x8x32x64x576, .f32⟩
  | 59 => ⟨S8x8x32x64x576, .f32⟩
  | 60 => ⟨S32, .i32⟩
  | 61 => ⟨S32x1, .i32⟩
  | 62 => ⟨S576, .i32⟩
  | 63 => ⟨S1x576, .i32⟩
  | 64 => ⟨S_, .i32⟩
  | 65 => ⟨S_, .i32⟩
  | 66 => ⟨S1x576, .i32⟩
  | 67 => ⟨S1x576, .i32⟩
  | 68 => ⟨S1x576, .i32⟩
  | 69 => ⟨S_, .i32⟩
  | 70 => ⟨S1x576, .i32⟩
  | 71 => ⟨S1x576, .i1⟩
  | 72 => ⟨S1x576, .i32⟩
  | 73 => ⟨S1x576, .i32⟩
  | 74 => ⟨S_, .i32⟩
  | 75 => ⟨S1x576, .i32⟩
  | 76 => ⟨S1x576, .i1⟩
  | 77 => ⟨S1x576, .i1⟩
  | 78 => ⟨S_, .i32⟩
  | 79 => ⟨S1x576, .i32⟩
  | 80 => ⟨S1x576, .i32⟩
  | 81 => ⟨S1x576, .i32⟩
  | 82 => ⟨S32x576, .i32⟩
  | 83 => ⟨S32x576, .i32⟩
  | 84 => ⟨S32x576, .i32⟩
  | 85 => ⟨S_, .i32⟩
  | 86 => ⟨S32x576, .i32⟩
  | 87 => ⟨S32x576, .i32⟩
  | 88 => ⟨S_, .i32⟩
  | 89 => ⟨S32x576, .i32⟩
  | 90 => ⟨S32x576, .i1⟩
  | 91 => ⟨S1x1x32x1x576, .i1⟩
  | 92 => ⟨S_, .f32⟩
  | 93 => ⟨S_, .f32⟩
  | 94 => ⟨S8x8x32x64x576, .i1⟩
  | 95 => ⟨S8x8x32x64x576, .f32⟩
  | 96 => ⟨S8x8x32x64x576, .f32⟩
  | 97 => ⟨S_, .f32⟩
  | 98 => ⟨S8x8x32x64, .f32⟩
  | 99 => ⟨S_, .f32⟩
  | 100 => ⟨S8x8x32x64, .f32⟩
  | 101 => ⟨S8x8x32x64, .f32⟩
  | 102 => ⟨S8x8x32x64x1, .f32⟩
  | 103 => ⟨S8x8x32x64x576, .f32⟩
  | 104 => ⟨S8x8x32x64x576, .f32⟩
  | 105 => ⟨S8x8x32x64x576, .f32⟩
  | 106 => ⟨S_, .f32⟩
  | 107 => ⟨S8x8x32x64, .f32⟩
  | 108 => ⟨S8x8x32x64x1, .f32⟩
  | 109 => ⟨S8x8x32x64x576, .f32⟩
  | 110 => ⟨S8x8x32x64x576, .f32⟩
  | 111 => ⟨S8x32x8x128x64, .f32⟩
  | 112 => ⟨S8x32x64x8x128, .f32⟩
  | 113 => ⟨S8x2048x1024, .f32⟩
  | 114 => ⟨S8x2048x1024, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S_, .f32⟩
  | 122 => ⟨S8x2048x1, .f32⟩
  | 123 => ⟨S8x2048x1, .f32⟩
  | 124 => ⟨S8x2048x1, .f32⟩
  | 125 => ⟨S8x2048x1024, .f32⟩
  | 126 => ⟨S8x2048x1024, .f32⟩
  | 127 => ⟨S1x1x1024, .f32⟩
  | _ => ⟨S8x2048x1024, .bf16⟩

abbrev hbmTy0_1 (i : Nat) : BufTy := match i % 128 with
  | 0 => ⟨S8x2048x1024, .f32⟩
  | 1 => ⟨S8x2048x1024, .f32⟩
  | 2 => ⟨S8x2048x1024, .bf16⟩
  | _ => ⟨S8x2048x1024, .bf16⟩

abbrev hbmTy (i : Nat) : BufTy := match i / 128 with
  | 0 => hbmTy0_0 i
  | 1 => hbmTy0_1 i
  | _ => ⟨S8x2048x1024, .bf16⟩

abbrev bufTy : (tb : Table) → Fin (tcTables nBuf tb) → BufTy
  | .hbm, ⟨i, _⟩ => hbmTy i
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_c_1 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_2 : Ref sig .tc := ⟨.hbm, 85, rfl⟩
abbrev main_v58 : Ref sig .tc := ⟨.hbm, 86, rfl⟩
abbrev main_v59 : Ref sig .tc := ⟨.hbm, 87, rfl⟩
abbrev main_c_3 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v63 : Ref sig .tc := ⟨.hbm, 96, rfl⟩
abbrev main_cst_5 : Ref sig .tc := ⟨.hbm, 97, rfl⟩
abbrev main_v64 : Ref sig .tc := ⟨.hbm, 98, rfl⟩
abbrev main_cst_6 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_7 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_8 : Ref sig .tc := ⟨.hbm, 115, rfl⟩
abbrev main_v79 : Ref sig .tc := ⟨.hbm, 116, rfl⟩
abbrev main_v80 : Ref sig .tc := ⟨.hbm, 117, rfl⟩
abbrev main_cst_9 : Ref sig .tc := ⟨.hbm, 118, rfl⟩
abbrev main_v81 : Ref sig .tc := ⟨.hbm, 119, rfl⟩
abbrev main_v82 : Ref sig .tc := ⟨.hbm, 120, rfl⟩
abbrev main_cst_10 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S1x2048, .f32⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .bf16⟩
  | .hbm, ⟨3, _⟩ => ⟨S8192x2048, .bf16⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x8192, .f32⟩
  | .hbm, ⟨21, _⟩ => ⟨S16384x8192, .f32⟩
  | .hbm, ⟨22, _⟩ => ⟨S_, .f32⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S8192x2048, .f32⟩
  | .hbm, ⟨27, _⟩ => ⟨S16384x2048, .f32⟩
  | .hbm, ⟨28, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel3.lean ====
abbrev S16384x2048 : Shape := ⟨2, ![16384, 2048]⟩
abbrev S2048x1024 : Shape := ⟨2, ![2048, 1024]⟩
abbrev S128 : Shape := ⟨1, ![128]⟩
abbrev S2048x8192 : Shape := ⟨2, ![2048, 8192]⟩
abbrev S8192x2048 : Shape := ⟨2, ![8192, 2048]⟩
abbrev S1x128 : Shape := ⟨2, ![1, 128]⟩
abbrev S16384x1024 : Shape := ⟨2, ![16384, 1024]⟩
abbrev S512x2048 : Shape := ⟨2, ![512, 2048]⟩
abbrev S64x8192 : Shape := ⟨2, ![64, 8192]⟩
abbrev S256x2048 : Shape := ⟨2, ![256, 2048]⟩
abbrev S512x1024 : Shape := ⟨2, ![512, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 15
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S128, .f32⟩
  | .hbm, ⟨5, _⟩ => ⟨S128, .f32⟩
  | .hbm, ⟨6, _⟩ => ⟨S2048x8192, .f32⟩
  | .hbm, ⟨7, _⟩ => ⟨S8192x2048, .f32⟩
  | .hbm, ⟨8, _⟩ => ⟨S1x128, .f32⟩
  | .hbm, ⟨9, _⟩ => ⟨S1x128, .f32⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S2048x8192, .bf16⟩
  | .hbm, ⟨14, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S1x128, .f32⟩
  | .local _ .vmem, ⟨7, _⟩ => ⟨S64x8192, .f32⟩
  | .local _ .vmem, ⟨8, _⟩ => ⟨S64x8192, .f32⟩
  | .local _ .vmem, ⟨9, _⟩ => ⟨S256x2048, .f32⟩
  | .local _ .vmem, ⟨10, _⟩ => ⟨S256x2048, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S64x8192, .bf16⟩
  | .local _ .vmem, ⟨18, _⟩ => ⟨S64x8192, .bf16⟩
  | .local _ .vmem, ⟨19, _⟩ => ⟨S256x2048, .bf16⟩
  | .local _ .vmem, ⟨20, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x8192 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
variable {F : FTy → Type} [FloatOps F] [Named F]
def κ : String → Option EReal := fun
  | "scale_log2e" => some (((Real.sqrt 128)⁻¹ * (Real.log 2)⁻¹ : ℝ) : EReal)
  | _ => none
-- ==== Reference3Ideal.lean ====
abbrev S16384x2048 : Shape := ⟨2, ![16384, 2048]⟩
abbrev S2048x1024 : Shape := ⟨2, ![2048, 1024]⟩
abbrev S128 : Shape := ⟨1, ![128]⟩
abbrev S2048x8192 : Shape := ⟨2, ![2048, 8192]⟩
abbrev S8192x2048 : Shape := ⟨2, ![8192, 2048]⟩
abbrev S16384x1024 : Shape := ⟨2, ![16384, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S1x1x128 : Shape := ⟨3, ![1, 1, 128]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .hbm, ⟨4, _⟩ => ⟨S128, .f32⟩
  | .hbm, ⟨5, _⟩ => ⟨S128, .f32⟩
  | .hbm, ⟨6, _⟩ => ⟨S2048x8192, .f32⟩
  | .hbm, ⟨7, _⟩ => ⟨S8192x2048, .f32⟩
  | .hbm, ⟨8, _⟩ => ⟨S16384x2048, .f32⟩
  | .hbm, ⟨9, _⟩ => ⟨S2048x1024, .f32⟩
  | .hbm, ⟨10, _⟩ => ⟨S16384x1024, .f32⟩
  | .hbm, ⟨11, _⟩ => ⟨S16384x8x128, .f32⟩
  | .hbm, ⟨12, _⟩ => ⟨S16384x8x128, .f32⟩
  | .hbm, ⟨13, _⟩ => ⟨S_, .f32⟩
  | .hbm, ⟨14, _⟩ => ⟨S16384x8, .f32⟩
  | .hbm, ⟨15, _⟩ => ⟨S16384x8x1, .f32⟩
  | .hbm, ⟨16, _⟩ => ⟨S_, .f32⟩
  | .hbm, ⟨17, _⟩ => ⟨S16384x8x1, .f32⟩
  | .hbm, ⟨18, _⟩ => ⟨S16384x8x1, .f32⟩
  | .hbm, ⟨19, _⟩ => ⟨S_, .f32⟩
  | .hbm, ⟨20, _⟩ => ⟨S16384x8x1, .f32⟩
  | .hbm, ⟨21, _⟩ => ⟨S16384x8x1, .f32⟩
  | .hbm, ⟨22, _⟩ => ⟨S16384x8x1, .f32⟩
  | .hbm, ⟨23, _⟩ => ⟨S16384x8x128, .f32⟩
  | .hbm, ⟨24, _⟩ => ⟨S16384x8x128, .f32⟩
  | .hbm, ⟨25, _⟩ => ⟨S1x1x128, .f32⟩
  | .hbm, ⟨26, _⟩ => ⟨S16384x8x128, .f32⟩
  | .hbm, ⟨27, _⟩ => ⟨S16384x8x128, .f32⟩
  | .hbm, ⟨28, _⟩ => ⟨S_, .f32⟩
  | .hbm, ⟨29, _⟩ => ⟨S_, .f32⟩
  | .hbm, ⟨30, _⟩ => ⟨S16384x8x128, .f32⟩
  | .hbm, ⟨31, _⟩ => ⟨S16384x8x128, .f32⟩
  | .hbm, ⟨32, _⟩ => ⟨S_, .f32⟩
  | .hbm, ⟨33, _⟩ => ⟨S_, .f32⟩
  | .hbm, ⟨34, _⟩ => ⟨S16384x8x128, .f32⟩
  | .hbm, ⟨35, _⟩ => ⟨S16384x8x128, .f32⟩
  | .hbm, ⟨36, _⟩ => ⟨S2048x1024, .f32⟩
  | .hbm, ⟨37, _⟩ => ⟨S16384x1024, .f32⟩
  | .hbm, ⟨38, _⟩ => ⟨S16384x8x128, .f32⟩
  | .hbm, ⟨39, _⟩ => ⟨S16384x8x128, .f32⟩
  | .hbm, ⟨40, _⟩ => ⟨S_, .f32⟩
  | .hbm, ⟨41, _⟩ => ⟨S16384x8, .f32⟩
  | .hbm, ⟨42, _⟩ => ⟨S16384x8x1, .f32⟩
  | .hbm, ⟨43, _⟩ => ⟨S_, .f32⟩
  | .hbm, ⟨44, _⟩ => ⟨S16384x8x1, .f32⟩
  | .hbm, ⟨45, _⟩ => ⟨S16384x8x1, .f32⟩
  | .hbm, ⟨46, _⟩ => ⟨S_, .f32⟩
  | .hbm, ⟨47, _⟩ => ⟨S16384x8x1, .f32⟩
  | .hbm, ⟨48, _⟩ => ⟨S16384x8x1, .f32⟩
  | .hbm, ⟨49, _⟩ => ⟨S16384x8x1, .f32⟩
  | .hbm, ⟨50, _⟩ => ⟨S16384x8x128, .f32⟩
  | .hbm, ⟨51, _⟩ => ⟨S16384x8x128, .f32⟩
  | .hbm, ⟨52, _⟩ => ⟨S1x1x128, .f32⟩
  | .hbm, ⟨53, _⟩ => ⟨S16384x8x128, .f32⟩
  | .hbm, ⟨54, _⟩ => ⟨S16384x8x128, .f32⟩
  | .hbm, ⟨55, _⟩ => ⟨S2048x1024, .f32⟩
  | .hbm, ⟨56, _⟩ => ⟨S16384x1024, .f32⟩
  | .hbm, ⟨57, _⟩ => ⟨S16384x1024, .f32⟩
  | .hbm, ⟨58, _⟩ => ⟨S16384x1024, .bf16⟩
  | .hbm, ⟨59, _⟩ => ⟨S16384x1024, .f32⟩
  | .hbm, ⟨60, _⟩ => ⟨S16384x1024, .bf16⟩
  | .hbm, ⟨61, _⟩ => ⟨S16384x1024, .bf16⟩
  | .hbm, ⟨62, _⟩ => ⟨S2048x8192, .bf16⟩
  | .hbm, ⟨63, _⟩ => ⟨S8192x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x2048 : Shape := ⟨2, ![2048, 2048]⟩
abbrev S2048x5120 : Shape := ⟨2, ![2048, 5120]⟩
abbrev S1x2048 : Shape := ⟨2, ![1, 2048]⟩
abbrev S16x16384x128 : Shape := ⟨3, ![16, 16384, 128]⟩
abbrev S2048x1024 : Shape := ⟨2, ![2048, 1024]⟩
abbrev S1024x2048 : Shape := ⟨2, ![1024, 2048]⟩
abbrev S128x1024 : Shape := ⟨2, ![128, 1024]⟩
abbrev S128x2048 : Shape := ⟨2, ![128, 2048]⟩
abbrev S16x1024x128 : Shape := ⟨3, ![16, 1024, 128]⟩
abbrev S64x2048 : Shape := ⟨2, ![64, 2048]⟩
abbrev S64 : Shape := ⟨1, ![64]⟩
abbrev S64x1 : Shape := ⟨2, ![64, 1]⟩
abbrev S256x2048 : Shape := ⟨2, ![256, 2048]⟩
abbrev S2048x512 : Shape := ⟨2, ![2048, 512]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 12
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .bf16⟩
  | .hbm, ⟨3, _⟩ => ⟨S2048x5120, .f32⟩
  | .hbm, ⟨4, _⟩ => ⟨S2048x2048, .f32⟩
  | .hbm, ⟨5, _⟩ => ⟨S1x2048, .f32⟩
  | .hbm, ⟨6, _⟩ => ⟨S16x16384x128, .bf16⟩
  | .hbm, ⟨7, _⟩ => ⟨S16384x2048, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x2048, .f32⟩
  | .local _ .vmem, ⟨11, _⟩ => ⟨S128x2048, .f32⟩
  | .local _ .vmem, ⟨12, _⟩ => ⟨S16x1024x128, .bf16⟩
  | .local _ .vmem, ⟨13, _⟩ => ⟨S16x1024x128, .bf16⟩
  | .local _ .vmem, ⟨14, _⟩ => ⟨S1024x2048, .bf16⟩
  | .local _ .vmem, ⟨15, _⟩ => ⟨S1024x2048, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x2048, .bf16⟩
  | .local _ .vmem, ⟨23, _⟩ => ⟨S128x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16384x2048 : Shape := ⟨2, ![16384, 2048]⟩
abbrev S2048 : Shape := ⟨1, ![2048]⟩
abbrev S2048x2048 : Shape := ⟨2, ![2048, 2048]⟩
abbrev S2048x5120 : Shape := ⟨2, ![2048, 5120]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x16x128 : Shape := ⟨3, ![16384, 16, 128]⟩
abbrev S16x16384x128 : Shape := ⟨3, ![16, 16384, 128]⟩
abbrev S2048x1024 : Shape := ⟨2, ![2048, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .bf16⟩
  | .hbm, ⟨3, _⟩ => ⟨S2048x5120, .f32⟩
  | .hbm, ⟨4, _⟩ => ⟨S2048x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S2048x2048, .f32⟩
  | .hbm, ⟨22, _⟩ => ⟨S16384x2048, .f32⟩
  | .hbm, ⟨23, _⟩ => ⟨S16384x16x128, .f32⟩
  | .hbm, ⟨24, _⟩ => ⟨S16x16384x128, .f32⟩
  | .hbm, ⟨25, _⟩ => ⟨S16x16384x128, .bf16⟩
  | .hbm, ⟨26, _⟩ => ⟨S16384x2048, .bf16⟩
  | .hbm, ⟨27, _⟩ => ⟨S2048x1024, .f32⟩
  | .hbm, ⟨28, _⟩ => ⟨S2048x1024, .bf16⟩
  | .hbm, ⟨29, _⟩ => ⟨S2048x1024, .f32⟩
  | .hbm, ⟨30, _⟩ => ⟨S2048x1024, .bf16⟩
  | .hbm, ⟨31, _⟩ => ⟨S2048x1024, .f32⟩
  | .hbm, ⟨32, _⟩ => ⟨S2048x1024, .bf16⟩
  | .hbm, ⟨33, _⟩ => ⟨S2048x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel5.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .f32⟩
  | .local _ .vmem, ⟨9, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S2048x2048, .bf16⟩
  | .hbm, ⟨4, _⟩ => ⟨S16384x2048, .bf16⟩
  | .hbm, ⟨5, _⟩ => ⟨S16384x2048, .f32⟩
  | .hbm, ⟨6, _⟩ => ⟨S2048x2048, .f32⟩
  | .hbm, ⟨7, _⟩ => ⟨S16384x2048, .f32⟩
  | .hbm, ⟨8, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.AttnMath.lean ====
/- A row of attention: the weights are powers of two of the scores, whatever number is taken off the scores first. -/
module

public import Idealize.ShloMosaic.PureOps.Ideal
public import Idealize.ShloMosaic.Lib.ValueIdx

@[expose] public section

noncomputable section

namespace Cert.Attn

open Idealize.ShloMosaic

/-- The weight of a score, nothing at minus infinity. -/
def wt (x : EReal) : ℝ := if x = ⊥ then 0 else Real.rpow 2 x.toReal

theorem wt_bot : wt ⊥ = 0 := if_pos rfl

theorem wt_coe (r : ℝ) : wt (r : EReal) = Real.rpow 2 r := by
  rw [wt, if_neg (EReal.coe_ne_bot r), EReal.toReal_coe]

theorem wt_nonneg (x : EReal) : 0 ≤ wt x := by
  unfold wt
  split
  · exact le_rfl
  · exact Real.rpow_nonneg (by norm_num) _

theorem wt_pos (x : EReal) (h : x ≠ ⊥) : 0 < wt x := by
  rw [wt, if_neg h]
  exact Real.rpow_pos_of_pos (by norm_num) _

theorem exp2_sub (x : EReal) (hx : x ≠ ⊤) (μ : ℝ) : Ideal.exp2 (x - μ) = ((Real.rpow 2 (-μ) * wt x : ℝ) : EReal) := by
  induction x with
  | bot => rw [EReal.bot_sub, Ideal.exp2_bot, wt_bot, mul_zero, EReal.coe_zero]
  | top => exact absurd rfl hx
  | coe r =>
    rw [← EReal.coe_sub, Ideal.exp2_coe, wt_coe]
    refine congrArg _ ?_
    show (2 : ℝ) ^ (r - μ) = 2 ^ (-μ) * 2 ^ r
    rw [← Real.rpow_add (by norm_num)]
    congr 1; ring

theorem exp_sub (x : EReal) (hx : x ≠ ⊤) (μ : ℝ) :
    Ideal.exp (x * (Real.log 2 : ℝ) - μ) = ((Real.exp (-μ) * wt x : ℝ) : EReal) := by
  induction x with
  | bot =>
    rw [EReal.bot_mul_coe_of_pos (Real.log_pos (by norm_num)), EReal.bot_sub, Ideal.exp_bot, wt_bot, mul_zero, EReal.coe_zero]
  | top => exact absurd rfl hx
  | coe r =>
    rw [← EReal.coe_mul, ← EReal.coe_sub, Ideal.exp_coe, wt_coe]
    refine congrArg _ ?_
    show Real.exp (r * Real.log 2 - μ) = Real.exp (-μ) * 2 ^ r
    rw [Real.rpow_def_of_pos (by norm_num), ← Real.exp_add]
    congr 1; ring

theorem sum_coe {ι : Type} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

theorem mul_sum {ι : Type} (s : Finset ι) (c : ℝ) (hc : 0 ≤ c) (f : ι → EReal) :
    ∑ k ∈ s, (c : EReal) * f k = (c : EReal) * ∑ k ∈ s, f k := by
  classical
  induction s using Finset.induction_on with
  | empty => simp
  | insert a s h ih =>
    rw [Finset.sum_insert h, Finset.sum_insert h, ih,
      EReal.left_distrib_of_nonneg_of_ne_top (EReal.coe_nonneg.2 hc) (EReal.coe_ne_top c)]

theorem div_real (x : EReal) (r : ℝ) (hr : 0 < r) : Ideal.div x r = x * ((r⁻¹ : ℝ) : EReal) := by
  rw [Ideal.div, if_neg (by exact_mod_cast hr.ne'), EReal.coe_inv]

/-- The average of the values under the scores' weights. -/
def att {ι : Type} [Fintype ι] (s v : ι → EReal) : EReal :=
  (((∑ k, wt (s k))⁻¹ : ℝ) : EReal) * ∑ k, (wt (s k) : EReal) * v k

variable {ι : Type} [Fintype ι] (s v : ι → EReal)

theorem total_pos (h : ∃ k, s k ≠ ⊥) : 0 < ∑ k, wt (s k) := by
  obtain ⟨k, hk⟩ := h
  exact Finset.sum_pos' (fun i _ => wt_nonneg _) ⟨k, Finset.mem_univ k, wt_pos _ hk⟩

/-- Powers of two of the scores less any number, the values' sum divided by the weights' own. -/
theorem att_exp2 (hs : ∀ k, s k ≠ ⊤) (h : ∃ k, s k ≠ ⊥) (μ : ℝ) :
    Ideal.div (∑ k, Ideal.exp2 (s k - μ) * v k) (∑ k, Ideal.exp2 (s k - μ) * 1) = att s v := by
  have hc : 0 < Real.rpow 2 (-μ) := Real.rpow_pos_of_pos (by norm_num) _
  have hS := total_pos s h
  have e1 : ∑ k, Ideal.exp2 (s k - μ) * 1 = ((Real.rpow 2 (-μ) * ∑ k, wt (s k) : ℝ) : EReal) := by
    rw [Finset.mul_sum, ← sum_coe]
    exact Finset.sum_congr rfl fun k _ => by rw [mul_one, exp2_sub _ (hs k)]
  have e2 : ∑ k, Ideal.exp2 (s k - μ) * v k = (Real.rpow 2 (-μ) : EReal) * ∑ k, (wt (s k) : EReal) * v k := by
    rw [← mul_sum _ _ hc.le]
    exact Finset.sum_congr rfl fun k _ => by rw [exp2_sub _ (hs k), EReal.coe_mul, mul_assoc]
  rw [e1, e2, div_real _ _ (mul_pos hc hS), att, mul_comm (Real.rpow 2 (-μ) : EReal), mul_comm (((∑ k, wt (s k))⁻¹ : ℝ) : EReal), mul_assoc,
    ← EReal.coe_mul]
  congr 2
  field_simp

/-- The same average as a softmax of the scores to base e, less any number, times the values. -/
theorem att_exp (hs : ∀ k, s k ≠ ⊤) (h : ∃ k, s k ≠ ⊥) (μ : ℝ) :
    ∑ k, Ideal.div (Ideal.exp (s k * (Real.log 2 : ℝ) - μ)) (∑ j, Ideal.exp (s j * (Real.log 2 : ℝ) - μ)) * v k = att s v := by
  have hc : 0 < Real.exp (-μ) := Real.exp_pos _
  have hS := total_pos s h
  have e1 : ∑ j, Ideal.exp (s j * (Real.log 2 : ℝ) - μ) = ((Real.exp (-μ) * ∑ k, wt (s k) : ℝ) : EReal) := by
    rw [Finset.mul_sum, ← sum_coe]
    exact Finset.sum_congr rfl fun k _ => exp_sub _ (hs k) μ
  rw [e1, att, ← mul_sum _ _ (inv_nonneg.2 hS.le)]
  refine Finset.sum_congr rfl fun k _ => ?_
  rw [exp_sub _ (hs k), div_real _ _ (mul_pos hc hS), ← mul_assoc, ← EReal.coe_mul, ← EReal.coe_mul]
  congr 2
  field_simp

/-- Keys whose score is minus infinity may be left out, and their values do not matter. -/
theorem att_embed {κ : Type} [Fintype κ] (s' v' : κ → EReal) (e : ι → κ) (he : Function.Injective e)
    (h0 : ∀ c, c ∉ Set.range e → s' c = ⊥) (hs : ∀ k, s k = s' (e k)) (hv : ∀ k, s k ≠ ⊥ → v k = v' (e k)) :
    att s v = att s' v' := by
  have e1 : ∑ k, wt (s k) = ∑ c, wt (s' c) :=
    Fintype.sum_of_injective e he _ _ (fun c hc => by rw [h0 c hc, wt_bot]) (fun k => by rw [hs k])
  have e2 : ∑ k, (wt (s k) : EReal) * v k = ∑ c, (wt (s' c) : EReal) * v' c :=
    Fintype.sum_of_injective e he _ _ (fun c hc => by rw [h0 c hc, wt_bot, EReal.coe_zero, zero_mul]) (fun k => by
      by_cases hk : s k = ⊥
      · rw [← hs k, hk, wt_bot, EReal.coe_zero, zero_mul, zero_mul]
      · rw [hv k hk, hs k])
  rw [att, att, e1, e2]

/-- A number, neither infinity. -/
theorem exists_real (x : EReal) (h1 : x ≠ ⊤) (h2 : x ≠ ⊥) : ∃ μ : ℝ, x = μ := ⟨x.toReal, (EReal.coe_toReal h1 h2).symm⟩

/-- A sum of products of numbers is a number. -/
theorem dot_real {n : ℕ} (a b : Fin n → EReal) (ha : ∀ k, a k ≠ ⊤ ∧ a k ≠ ⊥) (hb : ∀ k, b k ≠ ⊤ ∧ b k ≠ ⊥) :
    ∃ μ : ℝ, ∑ k, a k * b k = μ := by
  choose f hf using fun k => exists_real (a k) (ha k).1 (ha k).2
  choose g hg using fun k => exists_real (b k) (hb k).1 (hb k).2
  exact ⟨∑ k, f k * g k, by
    rw [← sum_coe]; exact Finset.sum_congr rfl fun k _ => by rw [hf, hg, EReal.coe_mul]⟩

end Cert.Attn

end
-- ==== Proof.AttnHead.lean ====
/- One head of the attention over 256 queries: the kernel's block of scores, weights and weighted values, entry by entry. -/
module

public import proofs.«01_k».proof.Proof.Gen.KernelIdeal.Value
public import proofs.«01_k».proof.Proof.AttnMath
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- The scores of 256 queries against 256 keys, the bias added. -/
def scoreK (q k : Vec Ideal S1x256x128 .bf16) (b : Vec Ideal S1x1x256x256 .f32) : FVec Ideal S256x256 .f32 :=
  addf (matmul dot_S256x128_S256x128_S256x256_1_1_0_0_n_n none (shapeCast S256x128 q shapeCasts_S1x256x128_S256x128 : FVec Ideal S256x128 .bf16)
      (shapeCast S256x128 k shapeCasts_S1x256x128_S256x128 : FVec Ideal S256x128 .bf16) (constant S256x256 .f32 0x00000000#32))
    (shapeCast S256x256 b shapeCasts_S1x1x256x256_S256x256)

/-- The largest of each query's scores. -/
def topK (s : FVec Ideal S256x256 .f32) : FVec Ideal S256x1 .f32 :=
  shapeCast S256x1 (multiReduction .maximumf [1] S256 s 0xFF800000#32 reduces_S256x256_S256 (.inl rfl) rfl) shapeCasts_S256_S256x1

/-- The powers of two of the scores less the column `m`. -/
def weightK (s : FVec Ideal S256x256 .f32) (m : FVec Ideal S256x1 .f32) : FVec Ideal S256x256 .bf16 :=
  truncf .bf16 (exp2 (subf s (broadcastTo S256x256 m broadcasts_S256x1_S256x256))) bitsLt_bf16_f32

/-- The weights of the window's three key blocks against the values and the ones beside them, and the quotient. -/
def mixK (p0 p1 p2 : FVec Ideal S256x256 .bf16) (ve : Vec Ideal S1x768x256 .bf16) : FVec Ideal S256x128 .f32 :=
  have o : FVec Ideal S256x256 .f32 := matmul dot_S256x768_S768x256_S256x256_1_0_0_1_n_n none
    (concatenate S256x768 1 [⟨S256x256, p0⟩, ⟨S256x256, p1⟩, ⟨S256x256, p2⟩] concatenates_S256x256_S256x256_S256x256_S256x768_d1)
    (shapeCast S768x256 ve shapeCasts_S1x768x256_S768x256 : FVec Ideal S768x256 .bf16) (constant S256x256 .f32 0x00000000#32)
  shapeCast S256x128 (divf (extractStridedSlice S256x128 ![0, 0] o slices_S256x256_o0_0_S256x128)
    (extractStridedSlice S256x128 ![0, 128] o slices_S256x256_o0_128_S256x128)) shapeCasts_S256x128_S256x128

def maxK (s0 s1 s2 : FVec Ideal S256x256 .f32) : FVec Ideal S256x1 .f32 := maximumf (maximumf (topK s0) (topK s1)) (topK s2)

def headK (q k0 k1 k2 : Vec Ideal S1x256x128 .bf16) (b0 b1 b2 : Vec Ideal S1x1x256x256 .f32) (ve : Vec Ideal S1x768x256 .bf16) : FVec Ideal S256x128 .f32 :=
  mixK (weightK (scoreK q k0 b0) (maxK (scoreK q k0 b0) (scoreK q k1 b1) (scoreK q k2 b2)))
    (weightK (scoreK q k1 b1) (maxK (scoreK q k0 b0) (scoreK q k1 b1) (scoreK q k2 b2)))
    (weightK (scoreK q k2 b2) (maxK (scoreK q k0 b0) (scoreK q k1 b1) (scoreK q k2 b2))) ve

section
variable (q k0 k1 k2 : Vec Ideal S1x256x128 .bf16) (b0 b1 b2 : Vec Ideal S1x1x256x256 .f32) (ve : Vec Ideal S1x768x256 .bf16)

theorem head_0_0 : k0_pay22 (k0_pay19 q) (k0_pay20 q k0 b0) (k0_pay21 q k1) b1 k2 b2 ve = headK q k0 k1 k2 b0 b1 b2 ve := rfl

theorem head_0_1 : k0_pay30 (k0_pay26 q k2 b2) (k0_pay27 q k0 b0 k1 b1 k2 b2) (k0_pay28 q k0 b0 k1 b1 k2 b2) (k0_pay29 q k0 b0 k1 b1 k2 b2) ve = headK q k0 k1 k2 b0 b1 b2 ve := rfl

theorem head_0_2 : k0_pay34 (k0_pay31 q) (k0_pay32 q k0 b0) (k0_pay33 q k1 b1) k2 b2 ve = headK q k0 k1 k2 b0 b1 b2 ve := rfl

theorem head_0_3 : k0_pay44 (k0_pay41 (k0_pay35 q) (k0_pay36 k0) b0 k1 b1 k2 b2) (k0_pay42 (k0_pay35 q) (k0_pay36 k0) b0 k1 b1 k2 b2) (k0_pay43 (k0_pay35 q) (k0_pay36 k0) b0 k1 b1 k2 b2) ve = headK q k0 k1 k2 b0 b1 b2 ve := rfl

theorem head_0_4 : k0_pay49 (k0_pay46 q k0 b0) (k0_pay47 q k1 b1) (k0_pay48 q k2) b2 ve = headK q k0 k1 k2 b0 b1 b2 ve := rfl

theorem head_0_5 : k0_pay54 (k0_pay52 (k0_pay50 q) (k0_pay51 q k0) b0 k1 b1 k2 b2) (k0_pay53 ve) = headK q k0 k1 k2 b0 b1 b2 ve := rfl

theorem head_0_6 : k0_pay60 (k0_pay56 q k0 b0) (k0_pay57 q k1 b1) (k0_pay58 q k2 b2) (k0_pay59 q k0 b0) ve = headK q k0 k1 k2 b0 b1 b2 ve := rfl

theorem head_0_7 : k0_pay64 (k0_pay63 (k0_pay61 q) (k0_pay62 q k0 b0) k1 b1 k2 b2 ve) = headK q k0 k1 k2 b0 b1 b2 ve := rfl

theorem head_1_0 : k0_pay70 (k0_pay68 (k0_pay66 q) (k0_pay67 q k0 b0) k1 b1 k2 b2 ve) (k0_pay69 (k0_pay66 q) (k0_pay67 q k0 b0) k1 b1 k2 b2 ve) = headK q k0 k1 k2 b0 b1 b2 ve := rfl

theorem head_1_1 : k0_pay77 (k0_pay72 q k0 b0) (k0_pay73 q k1 b1) (k0_pay74 q k2 b2) (k0_pay75 q k0 b0) (k0_pay76 q k1 b1) ve = headK q k0 k1 k2 b0 b1 b2 ve := rfl

theorem head_1_2 : k0_pay82 (k0_pay81 (k0_pay78 q) (k0_pay79 q k0 b0) (k0_pay80 k1) (constant S256x256 .f32 0x00000000#32) b1 k2 b2 ve) = headK q k0 k1 k2 b0 b1 b2 ve := rfl

theorem head_1_3 : k0_pay88 (k0_pay84 q k0 b0) (k0_pay85 q k1 b1) (k0_pay86 q k2 b2) (k0_pay87 q k0 b0 k1 b1 k2 b2) ve = headK q k0 k1 k2 b0 b1 b2 ve := rfl

theorem head_1_4 : k0_pay92 (k0_pay89 q) (k0_pay90 q k0 b0) (k0_pay91 q k1) b1 k2 b2 ve = headK q k0 k1 k2 b0 b1 b2 ve := rfl

theorem head_1_5 : k0_pay100 (k0_pay96 q k2 b2) (k0_pay97 q k0 b0 k1 b1 k2 b2) (k0_pay98 q k0 b0 k1 b1 k2 b2) (k0_pay99 q k0 b0 k1 b1 k2 b2) ve = headK q k0 k1 k2 b0 b1 b2 ve := rfl

theorem head_1_6 : k0_pay104 (k0_pay101 q) (k0_pay102 q k0 b0) (k0_pay103 q k1 b1) k2 b2 ve = headK q k0 k1 k2 b0 b1 b2 ve := rfl

theorem head_1_7 : k0_pay114 (k0_pay111 (k0_pay105 q) (k0_pay106 k0) b0 k1 b1 k2 b2) (k0_pay112 (k0_pay105 q) (k0_pay106 k0) b0 k1 b1 k2 b2) (k0_pay113 (k0_pay105 q) (k0_pay106 k0) b0 k1 b1 k2 b2) ve = headK q k0 k1 k2 b0 b1 b2 ve := rfl

end

theorem scoreK_apply (q k : Vec Ideal S1x256x128 .bf16) (b : Vec Ideal S1x1x256x256 .f32) (r j : Fin 256) :
    scoreK q k b (ix2 r j) = (∑ e : Fin 128, q (ix3 0 r e) * k (ix3 0 j e)) + b (ix4 0 0 r j) := by
  unfold scoreK
  pointwise

theorem weightK_apply (s : FVec Ideal S256x256 .f32) (m : FVec Ideal S256x1 .f32) (r j : Fin 256) :
    weightK s m (ix2 r j) = Ideal.exp2 (s (ix2 r j) - m (ix2 r 0)) := by
  unfold weightK
  pointwise
  rfl

theorem topK_fold (s : FVec Ideal S256x256 .f32) (r : Fin 256) :
    topK s (ix2 r 0) = (Finset.univ.filter fun i => reduces_S256x256_S256.drop i = ix1 r).fold (max : EReal → EReal → EReal) (Ideal.ofBits .f32 0xFF800000#32) s := by
  refine Eq.trans ?_ (multiReduction_maximumf_eq_fold (F := Ideal) (φ := .f32) s 0xFF800000#32 reduces_S256x256_S256 (.inl rfl) rfl (ix1 r))
  unfold topK
  pointwise

theorem drop_iff (i : S256x256.Idx) (r : Fin 256) : reduces_S256x256_S256.drop i = ix1 r ↔ (i 0).val = r.val := by
  constructor
  · intro h
    have := congrArg (fun z : S256.Idx => (z 0).val) h
    exact this
  · intro h
    funext a
    match a with
    | ⟨0, _⟩ => exact Fin.ext h

theorem bot_bits : Ideal.ofBits .f32 0xFF800000#32 = ⊥ := by
  simp [Ideal.ofBits, Ideal.ieee]

theorem topK_ne_top (s : FVec Ideal S256x256 .f32) (r : Fin 256) (h : ∀ j, s (ix2 r j) ≠ ⊤) : topK s (ix2 r 0) ≠ ⊤ := by
  rw [topK_fold, bot_bits]
  refine ne_of_lt ((Finset.fold_max_lt _).2 ⟨bot_lt_top, fun i hi => ?_⟩)
  have hi := (drop_iff i r).1 (Finset.mem_filter.1 hi).2
  have : i = ix2 r (i 1) := funext fun a => by
    match a with
    | ⟨0, _⟩ => exact Fin.ext hi
    | ⟨1, _⟩ => rfl
  rw [this]
  exact lt_top_iff_ne_top.2 (h _)

theorem topK_ne_bot (s : FVec Ideal S256x256 .f32) (r j : Fin 256) (h : s (ix2 r j) ≠ ⊥) : topK s (ix2 r 0) ≠ ⊥ := by
  rw [topK_fold, bot_bits]
  refine ne_of_gt ((Finset.lt_fold_max _).2 (.inr ⟨ix2 r j, Finset.mem_filter.2 ⟨Finset.mem_univ _, (drop_iff _ _).2 rfl⟩, bot_lt_iff_ne_bot.2 h⟩))

theorem maxK_apply (s0 s1 s2 : FVec Ideal S256x256 .f32) (r : Fin 256) :
    maxK s0 s1 s2 (ix2 r 0) = max (max (topK s0 (ix2 r 0)) (topK s1 (ix2 r 0))) (topK s2 (ix2 r 0)) := rfl

theorem mixK_apply (p0 p1 p2 : FVec Ideal S256x256 .bf16) (ve : Vec Ideal S1x768x256 .bf16) (r : Fin 256) (d : Fin 128)
    (p : Fin 768 → EReal) (h0 : ∀ j : Fin 256, p0 (ix2 r j) = p ⟨j.val, by omega⟩) (h1 : ∀ j : Fin 256, p1 (ix2 r j) = p ⟨256 + j.val, by omega⟩)
    (h2 : ∀ j : Fin 256, p2 (ix2 r j) = p ⟨512 + j.val, by omega⟩) :
    mixK p0 p1 p2 ve (ix2 r d) = Ideal.div (∑ x, p x * ve (ix3 0 x ⟨d.val, by omega⟩)) (∑ x, p x * ve (ix3 0 x ⟨128 + d.val, by omega⟩)) := by
  have hp : ∀ x : Fin 768, (if h : x.val < 256 then p0 (ix2 r ⟨x.val, h⟩)
      else if h' : x.val - 256 < 256 then p1 (ix2 r ⟨x.val - 256, h'⟩) else p2 (ix2 r ⟨x.val - 256 - 256, by omega⟩)) = p x := by
    intro x
    split
    · exact h0 _
    · split
      · rw [h1]; exact congrArg p (Fin.ext (by show 256 + (x.val - 256) = x.val; omega))
      · rw [h2]; exact congrArg p (Fin.ext (by show 512 + (x.val - 256 - 256) = x.val; omega))
  unfold mixK
  pointwise
  exact congrArg₂ Ideal.div (Finset.sum_congr rfl fun x _ => congrArg (· * _) (hp x)) (Finset.sum_congr rfl fun x _ => congrArg (· * _) (hp x))

/-- A head's output at a query is the average of the window's values under the weights of its scores. -/
theorem headK_apply (q k0 k1 k2 : Vec Ideal S1x256x128 .bf16) (b0 b1 b2 : Vec Ideal S1x1x256x256 .f32) (ve : Vec Ideal S1x768x256 .bf16)
    (r : Fin 256) (d : Fin 128) (s v : Fin 768 → EReal)
    (h0 : ∀ j : Fin 256, (∑ e : Fin 128, q (ix3 0 r e) * k0 (ix3 0 j e)) + b0 (ix4 0 0 r j) = s ⟨j.val, by omega⟩)
    (h1 : ∀ j : Fin 256, (∑ e : Fin 128, q (ix3 0 r e) * k1 (ix3 0 j e)) + b1 (ix4 0 0 r j) = s ⟨256 + j.val, by omega⟩)
    (h2 : ∀ j : Fin 256, (∑ e : Fin 128, q (ix3 0 r e) * k2 (ix3 0 j e)) + b2 (ix4 0 0 r j) = s ⟨512 + j.val, by omega⟩)
    (hv : ∀ x : Fin 768, ve (ix3 0 x ⟨d.val, by omega⟩) = v x) (hone : ∀ x : Fin 768, ve (ix3 0 x ⟨128 + d.val, by omega⟩) = 1)
    (hs : ∀ x, s x ≠ ⊤) (hb : ∃ x, s x ≠ ⊥) : headK q k0 k1 k2 b0 b1 b2 ve (ix2 r d) = att s v := by
  have e0 : ∀ j : Fin 256, scoreK q k0 b0 (ix2 r j) = s ⟨j.val, by omega⟩ := fun j => (scoreK_apply q k0 b0 r j).trans (h0 j)
  have e1 : ∀ j : Fin 256, scoreK q k1 b1 (ix2 r j) = s ⟨256 + j.val, by omega⟩ := fun j => (scoreK_apply q k1 b1 r j).trans (h1 j)
  have e2 : ∀ j : Fin 256, scoreK q k2 b2 (ix2 r j) = s ⟨512 + j.val, by omega⟩ := fun j => (scoreK_apply q k2 b2 r j).trans (h2 j)
  unfold headK
  generalize scoreK q k0 b0 = s0 at *
  generalize scoreK q k1 b1 = s1 at *
  generalize scoreK q k2 b2 = s2 at *
  have ht : maxK s0 s1 s2 (ix2 r 0) ≠ ⊤ := by
    rw [maxK_apply]
    refine ne_of_lt (max_lt (max_lt ?_ ?_) ?_)
    · exact lt_top_iff_ne_top.2 (topK_ne_top _ _ fun j => e0 j ▸ hs _)
    · exact lt_top_iff_ne_top.2 (topK_ne_top _ _ fun j => e1 j ▸ hs _)
    · exact lt_top_iff_ne_top.2 (topK_ne_top _ _ fun j => e2 j ▸ hs _)
  have hbt : maxK s0 s1 s2 (ix2 r 0) ≠ ⊥ := by
    obtain ⟨x, hx⟩ := hb
    rw [maxK_apply]
    refine ne_of_gt ?_
    by_cases c0 : x.val < 256
    · exact lt_max_of_lt_left (lt_max_of_lt_left (bot_lt_iff_ne_bot.2 (topK_ne_bot _ _ ⟨x.val, c0⟩ (by rw [e0]; exact hx))))
    · by_cases c1 : x.val < 512
      · refine lt_max_of_lt_left (lt_max_of_lt_right (bot_lt_iff_ne_bot.2 (topK_ne_bot _ _ ⟨x.val - 256, by omega⟩ ?_)))
        rw [e1, show (⟨256 + (x.val - 256), by omega⟩ : Fin 768) = x from Fin.ext (by show 256 + (x.val - 256) = x.val; omega)]
        exact hx
      · refine lt_max_of_lt_right (bot_lt_iff_ne_bot.2 (topK_ne_bot _ _ ⟨x.val - 512, by omega⟩ ?_))
        rw [e2, show (⟨512 + (x.val - 512), by omega⟩ : Fin 768) = x from Fin.ext (by show 512 + (x.val - 512) = x.val; omega)]
        exact hx
  obtain ⟨μ, hμ⟩ := exists_real _ ht hbt
  refine (mixK_apply _ _ _ ve r d (fun x => Ideal.exp2 (s x - μ)) (fun j => ?_) (fun j => ?_) fun j => ?_).trans ?_
  · rw [weightK_apply, e0, hμ]
  · rw [weightK_apply, e1, hμ]
  · rw [weightK_apply, e2, hμ]
  · rw [← att_exp2 s v hs hb μ]
    exact congrArg₂ Ideal.div (Finset.sum_congr rfl fun x _ => by rw [hv]) (Finset.sum_congr rfl fun x _ => by rw [hone])

end Cert.Attn

end
-- ==== Proof.AttnBody.lean ====
/- The attention, one grid point: what its body leaves in the output block and in the values it keeps. -/
module

public import proofs.«01_k».proof.Proof.Gen.KernelIdeal.Value
public import proofs.«01_k».proof.Proof.AttnHead
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

theorem hz : (![0, 0] : Fin 2 → Nat) = fun _ => 0 := funext fun a => by fin_cases a <;> rfl

/-- Two indices are one when their coordinates are. -/
theorem same {S : Shape} {x y : S.Idx} (h : ∀ a, (x a).val = (y a).val) : x = y := funext fun a => Fin.ext (h a)

/-- A load through a box reads, of the stores below it, what the box cuts out. -/
theorem readCov_part {S : Shape} {e : EltTy} {sp : Space} {v : View sig .tc sp S e} (off size : Fin S.rank → Nat)
    (inb : ∀ a, off a + size a ≤ S.size a) (L : List (View.Piece (Elt Ideal) S e)) :
    v.readCov L (Rect.unit off size inb).toLoadRect = View.ld (View.canon L) (Rect.unit off size inb) := by
  rw [View.readCov_eq_canon']

/-- Rows of the two tiles one after the other. -/
def rowAt (x y : Vec Ideal S1x512x1024 .bf16) (n : ℕ) (col : Fin 1024) : EReal :=
  if h : n < 512 then x (ix3 0 ⟨n, h⟩ col) else if h' : n - 512 < 512 then y (ix3 0 ⟨n - 512, h'⟩ col) else 0

theorem rowAt_lo (x y : Vec Ideal S1x512x1024 .bf16) (n : ℕ) (h : n < 512) (col : Fin 1024) : rowAt x y n col = x (ix3 0 ⟨n, h⟩ col) := dif_pos h

theorem rowAt_hi (x y : Vec Ideal S1x512x1024 .bf16) (n : ℕ) (h : n < 512) (col : Fin 1024) : rowAt x y (512 + n) col = y (ix3 0 ⟨n, h⟩ col) := by
  rw [rowAt, dif_neg (by omega), dif_pos (by omega)]
  exact congrArg (fun z => y (ix3 0 z col)) (Fin.ext (by show 512 + n - 512 = n; omega))

/-- The values of both tiles beside ones, head by head. -/
def vextOf (x3 x4 : Vec Ideal S1x512x1024 .bf16) : Vec Ideal S8x1024x256 .bf16 := fun y =>
  have h0 : (y 0).val < 8 := (y 0).isLt
  if h : (y 2).val < 128 then rowAt x3 x4 (y 1).val ⟨128 * (y 0).val + (y 2).val, by omega⟩ else 1

/-- The page of the bias table the queries of half a tile use. -/
def page (i : grid0.Coords) (qb : Fin 2) : Fin 3 := ⟨min (2 * (i 1).val + qb.val) 2, by omega⟩

theorem words : ∀ n < 4, ∀ q : Fin 2, BitVec.toNat (Scalar.indexCast (Scalar.minsi (Scalar.addi (Scalar.muli (BitVec.ofNat 32 n) 2#32) (BitVec.ofNat 32 q.val)) 2#32))
    = min (2 * n + q.val) 2 := by
  decide +kernel

theorem page_words (i : grid0.Coords) (qb : Fin 2) (w : BitVec 32) (hw : w = BitVec.ofNat 32 qb.val) :
    BitVec.toNat (Scalar.indexCast (Scalar.minsi (Scalar.addi (Scalar.muli (BitVec.ofNat 32 (i 1).val) 2#32) w) 2#32)) = (page i qb).val := by
  subst hw
  exact words (i 1).val (i 1).isLt qb

variable (i : grid0.Coords) (x0 x1 x2 x3 x4 : Vec Ideal S1x512x1024 .bf16) (x5 : Vec Ideal S3x8x256x768 .f32) (x6 : Vec Ideal S1x1024 .f32)

/-- Head `h`'s score of query `r` of half `qb` of the tile against the `c`-th key of its window. -/
def scoreAt (qb : Fin 2) (h : Fin 8) (r : Fin 256) (c : Fin 768) : EReal :=
  (∑ e : Fin 128, x0 (ix3 0 ⟨256 * qb.val + r.val, by omega⟩ ⟨128 * h.val + e.val, by omega⟩)
    * rowAt x1 x2 (256 * qb.val + c.val) ⟨128 * h.val + e.val, by omega⟩) + x5 (ix4 (page i qb) h r c)

/-- The attention of a tile's 512 queries before the norm. -/
def accOf : Vec Ideal S512x1024 .f32 := fun y =>
  have h0 : (y 0).val < 512 := (y 0).isLt
  have h1 : (y 1).val < 1024 := (y 1).isLt
  att (scoreAt i x0 x1 x2 x5 ⟨(y 0).val / 256, by omega⟩ ⟨(y 1).val / 128, by omega⟩ ⟨(y 0).val % 256, by omega⟩)
    (fun c => rowAt x3 x4 (256 * ((y 0).val / 256) + c.val) ⟨(y 1).val, h1⟩)

/-- One entry of a normalised row `x` of 1024 numbers under the gain `g`. -/
def norm (x g : Fin 1024 → EReal) (k : Fin 1024) : EReal :=
  x k * Ideal.rsqrt (Ideal.div (∑ l : Fin 1024, x l * x l) (Ideal.ofBits .f32 0x44800000#32)
    + Ideal.ofBits .f32 0x358637BD#32) * g k

def blockOf : Vec Ideal S1x512x1024 .bf16 := fun y =>
  norm (fun l => accOf i x0 x1 x2 x3 x4 x5 (ix2 (y 1) l)) (fun l => x6 (ix2 0 l)) (y 2)

theorem head_piece (qb : Fin 2) (hd : Fin 8) (ro co hn r0 r1 r2 vn : ℕ) (hro : ro = 256 * qb.val) (hco : co = 128 * hd.val) (hhn : hn = hd.val)
    (hvn : vn = (page i qb).val) (xk0 xk1 xk2 : Vec Ideal S1x512x1024 .bf16)
    (hk0 : ∀ (k : Fin 256) (col : Fin 1024) (h : r0 + k.val < 512), xk0 (ix3 0 ⟨r0 + k.val, h⟩ col) = rowAt x1 x2 (256 * qb.val + k.val) col)
    (hk1 : ∀ (k : Fin 256) (col : Fin 1024) (h : r1 + k.val < 512), xk1 (ix3 0 ⟨r1 + k.val, h⟩ col) = rowAt x1 x2 (256 * qb.val + (256 + k.val)) col)
    (hk2 : ∀ (k : Fin 256) (col : Fin 1024) (h : r2 + k.val < 512), xk2 (ix3 0 ⟨r2 + k.val, h⟩ col) = rowAt x1 x2 (256 * qb.val + (512 + k.val)) col)
    (inbq : ∀ a, (![0, ro, co] : Fin 3 → ℕ) a + (![1, 256, 128] : Fin 3 → ℕ) a ≤ S1x512x1024.size a)
    (inb0 : ∀ a, (![0, r0, co] : Fin 3 → ℕ) a + (![1, 256, 128] : Fin 3 → ℕ) a ≤ S1x512x1024.size a)
    (inb1 : ∀ a, (![0, r1, co] : Fin 3 → ℕ) a + (![1, 256, 128] : Fin 3 → ℕ) a ≤ S1x512x1024.size a)
    (inb2 : ∀ a, (![0, r2, co] : Fin 3 → ℕ) a + (![1, 256, 128] : Fin 3 → ℕ) a ≤ S1x512x1024.size a)
    (inc0 : ∀ a, (![vn, hn, 0, 0] : Fin 4 → ℕ) a + (![1, 1, 256, 256] : Fin 4 → ℕ) a ≤ S3x8x256x768.size a)
    (inc1 : ∀ a, (![vn, hn, 0, 256] : Fin 4 → ℕ) a + (![1, 1, 256, 256] : Fin 4 → ℕ) a ≤ S3x8x256x768.size a)
    (inc2 : ∀ a, (![vn, hn, 0, 512] : Fin 4 → ℕ) a + (![1, 1, 256, 256] : Fin 4 → ℕ) a ≤ S3x8x256x768.size a)
    (inbv : ∀ a, (![hn, ro, 0] : Fin 3 → ℕ) a + (![1, 768, 256] : Fin 3 → ℕ) a ≤ S8x1024x256.size a)
    (inbp : ∀ a, (![ro, co] : Fin 2 → ℕ) a + (![256, 128] : Fin 2 → ℕ) a ≤ S512x1024.size a)
    (hs : ∀ qb h r c, scoreAt i x0 x1 x2 x5 qb h r c ≠ ⊤) (hb : ∀ qb h r, ∃ c, scoreAt i x0 x1 x2 x5 qb h r c ≠ ⊥)
    (y : S256x128.Idx) :
    headK (View.ld x0 (Rect.unit (s := S1x512x1024) ![0, ro, co] ![1, 256, 128] inbq))
      (View.ld xk0 (Rect.unit (s := S1x512x1024) ![0, r0, co] ![1, 256, 128] inb0))
      (View.ld xk1 (Rect.unit (s := S1x512x1024) ![0, r1, co] ![1, 256, 128] inb1))
      (View.ld xk2 (Rect.unit (s := S1x512x1024) ![0, r2, co] ![1, 256, 128] inb2))
      (View.ld x5 (Rect.unit (s := S3x8x256x768) ![vn, hn, 0, 0] ![1, 1, 256, 256] inc0))
      (View.ld x5 (Rect.unit (s := S3x8x256x768) ![vn, hn, 0, 256] ![1, 1, 256, 256] inc1))
      (View.ld x5 (Rect.unit (s := S3x8x256x768) ![vn, hn, 0, 512] ![1, 1, 256, 256] inc2))
      (View.ld (vextOf x3 x4) (Rect.unit (s := S8x1024x256) ![hn, ro, 0] ![1, 768, 256] inbv)) y
      = accOf i x0 x1 x2 x3 x4 x5 ((Rect.unit (s := S512x1024) ![ro, co] ![256, 128] inbp).emb y) := by
  have y0 : (y 0).val < 256 := (y 0).isLt
  have y1 : (y 1).val < 128 := (y 1).isLt
  have e0 : (((Rect.unit (s := S512x1024) ![ro, co] ![256, 128] inbp).emb y) 0).val = ro + (y 0).val := Rect.idx_unit_val (s := S512x1024) ![ro, co] ![256, 128] inbp y 0
  have e1 : (((Rect.unit (s := S512x1024) ![ro, co] ![256, 128] inbp).emb y) 1).val = co + (y 1).val := Rect.idx_unit_val (s := S512x1024) ![ro, co] ![256, 128] inbp y 1
  subst hro hco hhn hvn
  have hq := qb.isLt
  have hh := hd.isLt
  have hq0 : ∀ (r : Fin 256) (e : Fin 128), View.ld x0 (Rect.unit (s := S1x512x1024) ![0, 256 * qb.val, 128 * hd.val] ![1, 256, 128] inbq) (ix3 0 r e)
      = x0 (ix3 0 ⟨256 * qb.val + r.val, by omega⟩ ⟨128 * hd.val + e.val, by omega⟩) := fun r e =>
    View.ld_unit_apply_of _ _ _ _ _ _ fun a => by
      match a with
      | ⟨0, _⟩ => rfl
      | ⟨1, _⟩ => rfl
      | ⟨2, _⟩ => rfl
  have hk : ∀ (x : Vec Ideal S1x512x1024 .bf16) (ro : ℕ) (inb : ∀ a, (![0, ro, 128 * hd.val] : Fin 3 → ℕ) a + (![1, 256, 128] : Fin 3 → ℕ) a ≤ S1x512x1024.size a)
      (r : Fin 256) (e : Fin 128) (h : ro + r.val < 512), View.ld x (Rect.unit (s := S1x512x1024) ![0, ro, 128 * hd.val] ![1, 256, 128] inb) (ix3 0 r e)
      = x (ix3 0 ⟨ro + r.val, h⟩ ⟨128 * hd.val + e.val, by omega⟩) := fun x ro inb r e h =>
    View.ld_unit_apply_of _ _ _ _ _ _ fun a => by
      match a with
      | ⟨0, _⟩ => rfl
      | ⟨1, _⟩ => rfl
      | ⟨2, _⟩ => rfl
  have hc : ∀ (co : ℕ) (inb : ∀ a, (![(page i qb).val, hd.val, 0, co] : Fin 4 → ℕ) a + (![1, 1, 256, 256] : Fin 4 → ℕ) a ≤ S3x8x256x768.size a)
      (r j : Fin 256) (h : co + j.val < 768), View.ld x5 (Rect.unit (s := S3x8x256x768) ![(page i qb).val, hd.val, 0, co] ![1, 1, 256, 256] inb) (ix4 0 0 r j)
      = x5 (ix4 (page i qb) hd r ⟨co + j.val, h⟩) := fun co inb r j h =>
    View.ld_unit_apply_of _ _ _ _ _ _ fun a => by
      match a with
      | ⟨0, _⟩ => rfl
      | ⟨1, _⟩ => rfl
      | ⟨2, _⟩ => exact (Nat.zero_add _).symm
      | ⟨3, _⟩ => rfl
  have b0 : r0 + 256 ≤ 512 := inb0 1
  have b1 : r1 + 256 ≤ 512 := inb1 1
  have b2 : r2 + 256 ≤ 512 := inb2 1
  have hv : ∀ (x : Fin 768) (d : Fin 256), View.ld (vextOf x3 x4) (Rect.unit (s := S8x1024x256) ![hd.val, 256 * qb.val, 0] ![1, 768, 256] inbv) (ix3 0 x d)
      = vextOf x3 x4 (ix3 hd ⟨256 * qb.val + x.val, by omega⟩ d) := fun x d =>
    View.ld_unit_apply_of _ _ _ _ _ _ fun a => by
      match a with
      | ⟨0, _⟩ => rfl
      | ⟨1, _⟩ => rfl
      | ⟨2, _⟩ => exact (Nat.zero_add _).symm
  have ey : y = ix2 (y 0) (y 1) := same fun b => by match b with | ⟨0, _⟩ => rfl | ⟨1, _⟩ => rfl
  have main : ∀ (r : Fin 256) (d : Fin 128), headK (View.ld x0 (Rect.unit (s := S1x512x1024) ![0, 256 * qb.val, 128 * hd.val] ![1, 256, 128] inbq))
      (View.ld xk0 (Rect.unit (s := S1x512x1024) ![0, r0, 128 * hd.val] ![1, 256, 128] inb0))
      (View.ld xk1 (Rect.unit (s := S1x512x1024) ![0, r1, 128 * hd.val] ![1, 256, 128] inb1))
      (View.ld xk2 (Rect.unit (s := S1x512x1024) ![0, r2, 128 * hd.val] ![1, 256, 128] inb2))
      (View.ld x5 (Rect.unit (s := S3x8x256x768) ![(page i qb).val, hd.val, 0, 0] ![1, 1, 256, 256] inc0))
      (View.ld x5 (Rect.unit (s := S3x8x256x768) ![(page i qb).val, hd.val, 0, 256] ![1, 1, 256, 256] inc1))
      (View.ld x5 (Rect.unit (s := S3x8x256x768) ![(page i qb).val, hd.val, 0, 512] ![1, 1, 256, 256] inc2))
      (View.ld (vextOf x3 x4) (Rect.unit (s := S8x1024x256) ![hd.val, 256 * qb.val, 0] ![1, 768, 256] inbv)) (ix2 r d)
      = att (scoreAt i x0 x1 x2 x5 qb hd r) (fun c => rowAt x3 x4 (256 * qb.val + c.val) ⟨128 * hd.val + d.val, by omega⟩) := by
    intro r d
    refine headK_apply _ _ _ _ _ _ _ _ r d _ _ (fun j => ?_) (fun j => ?_) (fun j => ?_) (fun x => ?_) (fun x => ?_) (hs _ _ _) (hb _ _ _)
    · unfold scoreAt
      refine congrArg₂ (· + ·) (Finset.sum_congr rfl fun e _ => congrArg₂ (· * ·) (hq0 r e) ((hk xk0 r0 inb0 j e (by omega)).trans (hk0 _ _ _))) ((hc 0 inc0 r j (by omega)).trans ?_)
      exact congrArg (fun z => x5 (ix4 (page i qb) hd r z)) (Fin.ext (Nat.zero_add _))
    · unfold scoreAt
      exact congrArg₂ (· + ·) (Finset.sum_congr rfl fun e _ => congrArg₂ (· * ·) (hq0 r e) ((hk xk1 r1 inb1 j e (by omega)).trans (hk1 _ _ _))) (hc 256 inc1 r j (by omega))
    · unfold scoreAt
      exact congrArg₂ (· + ·) (Finset.sum_congr rfl fun e _ => congrArg₂ (· * ·) (hq0 r e) ((hk xk2 r2 inb2 j e (by omega)).trans (hk2 _ _ _))) (hc 512 inc2 r j (by omega))
    · rw [hv, vextOf]
      exact dif_pos d.isLt
    · rw [hv, vextOf]
      exact dif_neg (by show ¬ (128 + d.val < 128); omega)
  rw [ey]
  refine (main (y 0) (y 1)).trans ?_
  rw [← ey]
  generalize (Rect.unit (s := S512x1024) ![256 * qb.val, 128 * hd.val] ![256, 128] inbp).emb y = z at e0 e1
  unfold accOf
  have f0 : qb = ⟨(z 0).val / 256, by omega⟩ := Fin.ext (by show qb.val = (z 0).val / 256; omega)
  have f1 : hd = ⟨(z 1).val / 128, by omega⟩ := Fin.ext (by show hd.val = (z 1).val / 128; omega)
  have f2 : y 0 = ⟨(z 0).val % 256, by omega⟩ := Fin.ext (by show (y 0).val = (z 0).val % 256; omega)
  refine congrArg₂ att ?_ (funext fun c => ?_)
  · exact congr (congr (congrArg (scoreAt i x0 x1 x2 x5) f0) f1) f2
  · exact congr (congrArg (rowAt x3 x4) (by omega)) (Fin.ext (by show 128 * hd.val + (y 1).val = (z 1).val; omega))

theorem vext_piece (hn co ro : ℕ) (x : Vec Ideal S1x512x1024 .bf16) (hco : co = 128 * hn)
    (hx : ∀ (k : Fin 512) (col : Fin 1024), x (ix3 0 k col) = rowAt x3 x4 (ro + k.val) col)
    (inb : ∀ a, (![0, 0, co] : Fin 3 → ℕ) a + (![1, 512, 128] : Fin 3 → ℕ) a ≤ S1x512x1024.size a)
    (inbp : ∀ a, (![hn, ro, 0] : Fin 3 → ℕ) a + (![1, 512, 128] : Fin 3 → ℕ) a ≤ S8x1024x256.size a) (y : S1x512x128.Idx) :
    k0_pay3 (View.ld x (Rect.unit (s := S1x512x1024) ![0, 0, co] ![1, 512, 128] inb)) y
      = vextOf x3 x4 ((Rect.unit (s := S8x1024x256) ![hn, ro, 0] ![1, 512, 128] inbp).emb y) := by
  have y0 : (y 0).val < 1 := (y 0).isLt
  have y1 : (y 1).val < 512 := (y 1).isLt
  have y2 : (y 2).val < 128 := (y 2).isLt
  have hb : co + 128 ≤ 1024 := inb 2
  have hcol : co + (y 2).val < 1024 := by omega
  have e0 : (((Rect.unit (s := S8x1024x256) ![hn, ro, 0] ![1, 512, 128] inbp).emb y) 0).val = hn + (y 0).val := Rect.idx_unit_val (s := S8x1024x256) ![hn, ro, 0] ![1, 512, 128] inbp y 0
  have e1 : (((Rect.unit (s := S8x1024x256) ![hn, ro, 0] ![1, 512, 128] inbp).emb y) 1).val = ro + (y 1).val := Rect.idx_unit_val (s := S8x1024x256) ![hn, ro, 0] ![1, 512, 128] inbp y 1
  have e2 : (((Rect.unit (s := S8x1024x256) ![hn, ro, 0] ![1, 512, 128] inbp).emb y) 2).val = 0 + (y 2).val := Rect.idx_unit_val (s := S8x1024x256) ![hn, ro, 0] ![1, 512, 128] inbp y 2
  have hl : ∀ (v : Vec Ideal S1x512x128 .bf16) (r : Fin 512) (d : Fin 128), k0_pay3 v (ix3 0 r d) = v (ix3 0 r d) := fun v r d => by
    unfold k0_pay3
    pointwise
  refine (show k0_pay3 (View.ld x (Rect.unit (s := S1x512x1024) ![0, 0, co] ![1, 512, 128] inb)) y
    = k0_pay3 (View.ld x (Rect.unit (s := S1x512x1024) ![0, 0, co] ![1, 512, 128] inb)) (ix3 0 (y 1) (y 2)) from congrArg _ (same fun b => ?_)).trans ((hl _ _ _).trans ?_)
  · match b with
    | ⟨0, _⟩ => show (y 0).val = 0; omega
    | ⟨1, _⟩ => rfl
    | ⟨2, _⟩ => rfl
  refine (View.ld_unit_apply_of x _ _ _ _ (ix3 0 (y 1) ⟨co + (y 2).val, hcol⟩) fun a => ?_).trans ((hx _ _).trans ?_)
  · match a with
    | ⟨0, _⟩ => rfl
    | ⟨1, _⟩ => exact (Nat.zero_add _).symm
    | ⟨2, _⟩ => rfl
  generalize (Rect.unit (s := S8x1024x256) ![hn, ro, 0] ![1, 512, 128] inbp).emb y = z at e0 e1 e2
  unfold vextOf
  refine Eq.trans ?_ (dif_pos (by omega)).symm
  exact congr (congrArg (rowAt x3 x4) e1.symm) (Fin.ext (by show co + (y 2).val = 128 * (z 0).val + (z 2).val; omega))

theorem one_bits : Ideal.ofBits .bf16 0x3F80#16 = 1 := by simp [Ideal.ofBits, Ideal.ieee, -EReal.coe_mul]; norm_num

theorem ones_piece (inbp : ∀ a, (![0, 0, 128] : Fin 3 → ℕ) a + (![8, 1024, 128] : Fin 3 → ℕ) a ≤ S8x1024x256.size a) (y : S8x1024x128.Idx) :
    k0_pay2 (F := Ideal) y = vextOf x3 x4 ((Rect.unit (s := S8x1024x256) ![0, 0, 128] ![8, 1024, 128] inbp).emb y) := by
  have e2 : (((Rect.unit (s := S8x1024x256) ![0, 0, 128] ![8, 1024, 128] inbp).emb y) 2).val = 128 + (y 2).val := Rect.idx_unit_val (s := S8x1024x256) ![0, 0, 128] ![8, 1024, 128] inbp y 2
  refine Eq.trans ?_ (dif_neg (by omega)).symm
  exact one_bits

/-- Rows of a tile normalised: what each half of a tile stores. -/
theorem norm_pay (ac : Vec Ideal S256x1024 .f32) (g : Vec Ideal S1x1024 .f32) (r : Fin 256) (d : Fin 1024) :
    k0_pay1 (k0_pay115 ac) g (ix3 0 r d) = norm (fun l => ac (ix2 r l)) (fun l => g (ix2 0 l)) d := by
  unfold norm k0_pay1 k0_pay115
  pointwise

theorem norm_pay' (ac : Vec Ideal S256x1024 .f32) (g : Vec Ideal S1x1024 .f32) : k0_pay65 ac g = k0_pay1 (k0_pay115 ac) g := rfl

theorem norm_piece (ro : ℕ) (ac : Vec Ideal S256x1024 .f32) (h : ∀ r : Fin 256, ro + r.val < 512)
    (hac : ∀ (r : Fin 256) (l : Fin 1024), ac (ix2 r l) = accOf i x0 x1 x2 x3 x4 x5 (ix2 ⟨ro + r.val, h r⟩ l))
    (inb : ∀ a, (![0, ro, 0] : Fin 3 → ℕ) a + (![1, 256, 1024] : Fin 3 → ℕ) a ≤ S1x512x1024.size a) (y : S1x256x1024.Idx) :
    k0_pay1 (k0_pay115 ac) x6 y = blockOf i x0 x1 x2 x3 x4 x5 x6 ((Rect.unit (s := S1x512x1024) ![0, ro, 0] ![1, 256, 1024] inb).emb y) := by
  have y0 : (y 0).val < 1 := (y 0).isLt
  have e1 : (((Rect.unit (s := S1x512x1024) ![0, ro, 0] ![1, 256, 1024] inb).emb y) 1).val = ro + (y 1).val := Rect.idx_unit_val (s := S1x512x1024) ![0, ro, 0] ![1, 256, 1024] inb y 1
  have e2 : (((Rect.unit (s := S1x512x1024) ![0, ro, 0] ![1, 256, 1024] inb).emb y) 2).val = 0 + (y 2).val := Rect.idx_unit_val (s := S1x512x1024) ![0, ro, 0] ![1, 256, 1024] inb y 2
  refine (show k0_pay1 (k0_pay115 ac) x6 y = k0_pay1 (k0_pay115 ac) x6 (ix3 0 (y 1) (y 2)) from congrArg _ (same fun b => ?_)).trans ((norm_pay ac x6 _ _).trans ?_)
  · match b with
    | ⟨0, _⟩ => show (y 0).val = 0; omega
    | ⟨1, _⟩ => rfl
    | ⟨2, _⟩ => rfl
  unfold blockOf
  generalize (Rect.unit (s := S1x512x1024) ![0, ro, 0] ![1, 256, 1024] inb).emb y = z at e1 e2
  have f1 : (⟨ro + (y 1).val, h (y 1)⟩ : Fin 512) = z 1 := Fin.ext e1.symm
  have f2 : y 2 = z 2 := Fin.ext (by rw [e2, Nat.zero_add])
  refine congr (congr (congrArg norm (funext fun l => ?_)) rfl) f2
  exact (hac (y 1) l).trans (congrArg (fun q => accOf i x0 x1 x2 x3 x4 x5 (ix2 q l)) f1)

/-- An index the last piece of a cover misses is in one of the others. -/
theorem cover_part {S : Shape} {e : EltTy} (L : List (View.Piece (Elt Ideal) S e)) (P : View.Piece (Elt Ideal) S e) (y : S.Idx)
    (h : ∃ p ∈ L ++ [P], y ∈ p.1.set) (hy : y ∉ P.1.set) : ∃ p ∈ L, y ∈ p.1.set := by
  obtain ⟨p, hp, hm⟩ := h
  rcases List.mem_append.1 hp with hp | hp
  · exact ⟨p, hp, hm⟩
  · obtain rfl := List.mem_singleton.1 hp
    exact absurd hm hy

/-- Stores over contents that already agree with `G` wherever the stores do not reach. -/
theorem read_over {S : Shape} {e : EltTy} {sp : Space} (a : Memref sig .tc sp S e) (ha : a.IsWhole) (o G : S.Idx → Elt Ideal e)
    (P : View.Piece (Elt Ideal) S e) (L : List (View.Piece (Elt Ideal) S e)) (hc : ∀ y, ∃ p ∈ L ++ [P], y ∈ p.1.set)
    (hL : ∀ p ∈ L, ∀ x : p.1.shape.Idx, p.2 x = G (p.1.emb x)) (ho : ∀ y ∈ P.1.set, o y = G y) :
    View.read (Elt Ideal) a.view (a.view.writes (Elt Ideal) (ha.unread o) L) = G := by
  funext y
  by_cases h : ∃ p ∈ L, y ∈ p.1.set
  · exact View.read_writes_apply_of_pieces a.view (ha.unread o) G L hL y h
  · rw [View.read_writes_apply_of_forall_not_mem a.view (ha.unread o) y L fun p hp hm => h ⟨p, hp, hm⟩, ha.read_unread]
    refine ho y ?_
    by_contra hn
    exact h (cover_part L P y (hc y) hn)

theorem mem_ones (y : S8x1024x256.Idx) (hm : y ∈ (Rect.unit (s := S8x1024x256) ![0, 0, 128] ![8, 1024, 128] inb_S8x1024x256_S8x1024x128_0_0_128).set) :
    128 ≤ (y 2).val := (Rect.mem_set_unit.1 hm (2 : Fin 3)).1

theorem mem_half (y : S512x1024.Idx) (hm : y ∈ (Rect.unit (s := S512x1024) ![256, 0] ![256, 1024] inb_S512x1024_S256x1024_256_0).set) :
    256 ≤ (y 0).val := (Rect.mem_set_unit.1 hm (0 : Fin 2)).1

theorem vextOf_ones (x3 x4 : Vec Ideal S1x512x1024 .bf16) (y : S8x1024x256.Idx) (h : 128 ≤ (y 2).val) : vextOf x3 x4 y = 1 := by
  unfold vextOf
  exact dif_neg (by omega)

theorem low (x y : Vec Ideal S1x512x1024 .bf16) (k : Fin 512) (col : Fin 1024) : rowAt x y (0 + k.val) col = x (ix3 0 k col) := by
  rw [Nat.zero_add]
  exact rowAt_lo x y k.val k.isLt col

theorem rowK (x y : Vec Ideal S1x512x1024 .bf16) (n n' : ℕ) (e : n = n') (col : Fin 1024) (h : n < 512) : x (ix3 0 ⟨n, h⟩ col) = rowAt x y n' col := by
  subst e
  exact (rowAt_lo x y n h col).symm

theorem rowK' (x y : Vec Ideal S1x512x1024 .bf16) (n n' : ℕ) (e : 512 + n = n') (col : Fin 1024) (h : n < 512) : y (ix3 0 ⟨n, h⟩ col) = rowAt x y n' col := by
  subst e
  exact (rowAt_hi x y n h col).symm

variable (c : Dev nD) (a2 : Memref sig .tc .vmem S1x512x1024 .bf16) (h2 : a2.IsWhole)
  (a3 : Memref sig .tc .vmem S1x512x1024 .bf16) (h3 : a3.IsWhole) (a4 : Memref sig .tc .vmem S1x512x1024 .bf16) (h4 : a4.IsWhole)
  (a5 : Memref sig .tc .vmem S1x512x1024 .bf16) (h5 : a5.IsWhole) (a6 : Memref sig .tc .vmem S1x512x1024 .bf16) (h6 : a6.IsWhole)
  (a7 : Memref sig .tc .vmem S3x8x256x768 .f32) (h7 : a7.IsWhole) (a8 : Memref sig .tc .vmem S1x1024 .f32) (h8 : a8.IsWhole)
  (a9 : Memref sig .tc .vmem S1x512x1024 .bf16) (h9 : a9.IsWhole) (a10 : Memref sig .tc .vmem S512x1024 .f32) (h10 : a10.IsWhole)
  (a11 : Memref sig .tc .vmem S8x1024x256 .bf16) (h11 : a11.IsWhole)
  (xs1 : Vec Ideal S8x1024x256 .bf16)

/-- What the first point leaves in the values it keeps. -/
theorem vext_A (hc0 : cond0_0 i) : sout0_A_1 c i a2 h2 a3 h3 a4 h4 a5 h5 a6 h6 a7 h7 a8 h8 a9 h9 a10 h10 a11 h11 hc0 x0 x1 x2 x3 x4 x5 x6 = vextOf x3 x4 := by
  funext y
  have hcov := scover0_A_1 c i a2 h2 a3 h3 a4 h4 a5 h5 a6 h6 a7 h7 a8 h8 a9 h9 a10 h10 a11 h11 hc0 x0 x1 x2 x3 x4 x5 x6 y
  revert hcov
  unfold sout0_A_1
  rw [View.read_writes_eq_canon _ _ _ (scover0_A_1 c i a2 h2 a3 h3 a4 h4 a5 h5 a6 h6 a7 h7 a8 h8 a9 h9 a10 h10 a11 h11 hc0 x0 x1 x2 x3 x4 x5 x6)]
  unfold kernelRun0_A
  dsimp only
  sl_unfold_words
  simp only [View.readAt_eq_ld, h5.read_unread, h6.read_unread]
  intro hcov
  refine View.canon_apply_of_pieces _ _ ?_ y hcov
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩⟩
  · exact fun y => vext_piece x3 x4 7 896 512 x4 rfl (fun k col => (rowAt_hi x3 x4 k.val k.isLt col).symm) _ (by decide) y
  · exact fun y => vext_piece x3 x4 7 896 0 x3 rfl (fun k col => (low x3 x4 k col).symm) _ (by decide) y
  · exact fun y => vext_piece x3 x4 6 768 512 x4 rfl (fun k col => (rowAt_hi x3 x4 k.val k.isLt col).symm) _ (by decide) y
  · exact fun y => vext_piece x3 x4 6 768 0 x3 rfl (fun k col => (low x3 x4 k col).symm) _ (by decide) y
  · exact fun y => vext_piece x3 x4 5 640 512 x4 rfl (fun k col => (rowAt_hi x3 x4 k.val k.isLt col).symm) _ (by decide) y
  · exact fun y => vext_piece x3 x4 5 640 0 x3 rfl (fun k col => (low x3 x4 k col).symm) _ (by decide) y
  · exact fun y => vext_piece x3 x4 4 512 512 x4 rfl (fun k col => (rowAt_hi x3 x4 k.val k.isLt col).symm) _ (by decide) y
  · exact fun y => vext_piece x3 x4 4 512 0 x3 rfl (fun k col => (low x3 x4 k col).symm) _ (by decide) y
  · exact fun y => vext_piece x3 x4 3 384 512 x4 rfl (fun k col => (rowAt_hi x3 x4 k.val k.isLt col).symm) _ (by decide) y
  · exact fun y => vext_piece x3 x4 3 384 0 x3 rfl (fun k col => (low x3 x4 k col).symm) _ (by decide) y
  · exact fun y => vext_piece x3 x4 2 256 512 x4 rfl (fun k col => (rowAt_hi x3 x4 k.val k.isLt col).symm) _ (by decide) y
  · exact fun y => vext_piece x3 x4 2 256 0 x3 rfl (fun k col => (low x3 x4 k col).symm) _ (by decide) y
  · exact fun y => vext_piece x3 x4 1 128 512 x4 rfl (fun k col => (rowAt_hi x3 x4 k.val k.isLt col).symm) _ (by decide) y
  · exact fun y => vext_piece x3 x4 1 128 0 x3 rfl (fun k col => (low x3 x4 k col).symm) _ (by decide) y
  · exact fun y => vext_piece x3 x4 0 0 512 x4 rfl (fun k col => (rowAt_hi x3 x4 k.val k.isLt col).symm) _ (by decide) y
  · exact fun y => vext_piece x3 x4 0 0 0 x3 rfl (fun k col => (low x3 x4 k col).symm) _ (by decide) y
  · exact fun y => ones_piece x3 x4 (by decide) y

/-- What a later point leaves there, when it finds the ones. -/
theorem vext_B (hc0 : ¬cond0_0 i) (ho : ∀ y : S8x1024x256.Idx, 128 ≤ (y 2).val → xs1 y = 1) :
    sout0_B_1 c i a2 h2 a3 h3 a4 h4 a5 h5 a6 h6 a7 h7 a8 h8 a9 h9 a10 h10 a11 h11 hc0 x0 x1 x2 x3 x4 x5 x6 xs1 = vextOf x3 x4 := by
  unfold sout0_B_1
  unfold kernelRun0_B
  dsimp only
  sl_unfold_words
  simp only [View.readAt_eq_ld, h5.read_unread, h6.read_unread]
  refine read_over a11 h11 xs1 (vextOf x3 x4) (⟨Rect.unit ![0, 0, 128] ![8, 1024, 128] inb_S8x1024x256_S8x1024x128_0_0_128, fun _ => (1 : EReal)⟩ : View.Piece (Elt Ideal) S8x1024x256 .bf16) _
    (View.cover_of_tiledBy (s := S8x1024x256) _ ![1, 512, 128] (by sl_kernel_rfl)) ?_ (fun y hm => ?_)
  rotate_left
  · exact (ho y (mem_ones y hm)).trans (vextOf_ones x3 x4 y (mem_ones y hm)).symm
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
  · exact fun y => vext_piece x3 x4 7 896 512 x4 rfl (fun k col => (rowAt_hi x3 x4 k.val k.isLt col).symm) _ (by decide) y
  · exact fun y => vext_piece x3 x4 7 896 0 x3 rfl (fun k col => (low x3 x4 k col).symm) _ (by decide) y
  · exact fun y => vext_piece x3 x4 6 768 512 x4 rfl (fun k col => (rowAt_hi x3 x4 k.val k.isLt col).symm) _ (by decide) y
  · exact fun y => vext_piece x3 x4 6 768 0 x3 rfl (fun k col => (low x3 x4 k col).symm) _ (by decide) y
  · exact fun y => vext_piece x3 x4 5 640 512 x4 rfl (fun k col => (rowAt_hi x3 x4 k.val k.isLt col).symm) _ (by decide) y
  · exact fun y => vext_piece x3 x4 5 640 0 x3 rfl (fun k col => (low x3 x4 k col).symm) _ (by decide) y
  · exact fun y => vext_piece x3 x4 4 512 512 x4 rfl (fun k col => (rowAt_hi x3 x4 k.val k.isLt col).symm) _ (by decide) y
  · exact fun y => vext_piece x3 x4 4 512 0 x3 rfl (fun k col => (low x3 x4 k col).symm) _ (by decide) y
  · exact fun y => vext_piece x3 x4 3 384 512 x4 rfl (fun k col => (rowAt_hi x3 x4 k.val k.isLt col).symm) _ (by decide) y
  · exact fun y => vext_piece x3 x4 3 384 0 x3 rfl (fun k col => (low x3 x4 k col).symm) _ (by decide) y
  · exact fun y => vext_piece x3 x4 2 256 512 x4 rfl (fun k col => (rowAt_hi x3 x4 k.val k.isLt col).symm) _ (by decide) y
  · exact fun y => vext_piece x3 x4 2 256 0 x3 rfl (fun k col => (low x3 x4 k col).symm) _ (by decide) y
  · exact fun y => vext_piece x3 x4 1 128 512 x4 rfl (fun k col => (rowAt_hi x3 x4 k.val k.isLt col).symm) _ (by decide) y
  · exact fun y => vext_piece x3 x4 1 128 0 x3 rfl (fun k col => (low x3 x4 k col).symm) _ (by decide) y
  · exact fun y => vext_piece x3 x4 0 0 512 x4 rfl (fun k col => (rowAt_hi x3 x4 k.val k.isLt col).symm) _ (by decide) y
  · exact fun y => vext_piece x3 x4 0 0 0 x3 rfl (fun k col => (low x3 x4 k col).symm) _ (by decide) y

end Cert.Attn

end
-- ==== Proof.AttnRef.lean ====
/- The reference's attention, entry by entry: its padded and banded keys and values, its scores, its mask and its softmax. -/
module

public import proofs.«01_k».proof.Proof.AttnMath
public import proofs.«01_k».proof.Proof.AttnBody
public import proofs.«01_k».proof.Proof.Gen.ReferenceIdeal.Run
public import Idealize.ShloMosaic.Lib.Pointwise
public import Idealize.ShloMosaic.Lib.Pipeline.ValueKit
public import Idealize.ShloMosaic.Lib.ValueIdxRank6

@[expose] public section

set_option maxRecDepth 16384

noncomputable section

namespace Cert.Attn

open Idealize.ShloMosaic Idealize.ShloMosaic.TcCoe Idealize.SL.Sem

/-- A row of keys or values, 512 rows of zeros before the sequence. -/
def before (x : (⟨3, ![8, 2048, 1024]⟩ : Shape).Idx → EReal) (b : Fin 8) (n : ℕ) (l : Fin 1024) : EReal :=
  if h : 512 ≤ n ∧ n - 512 < 2048 then x (ix3 b ⟨n - 512, h.2⟩ l) else 0

/-- The score of query `s` and the `k`th key of its band, to base 2. -/
def band (q k : (⟨3, ![8, 2048, 1024]⟩ : Shape).Idx → EReal) (bias : (⟨4, ![3, 8, 256, 768]⟩ : Shape).Idx → EReal)
    (b h : Fin 8) (s : Fin 2048) (n : Fin 576) : EReal :=
  if 512 ≤ 64 * (s.val / 64) + n.val then
    (∑ e : Fin 128, q (ix3 b s ⟨128 * h.val + e.val, by omega⟩) * before k b (64 * (s.val / 64) + n.val) ⟨128 * h.val + e.val, by omega⟩)
      + bias (ix4 2 h ⟨s.val % 256, by omega⟩ ⟨64 * (s.val % 256 / 64) + n.val, by omega⟩)
  else ⊥

/-- The attention before the norm. -/
def mixed (q k v : (⟨3, ![8, 2048, 1024]⟩ : Shape).Idx → EReal) (bias : (⟨4, ![3, 8, 256, 768]⟩ : Shape).Idx → EReal)
    (b : Fin 8) (s : Fin 2048) (l : Fin 1024) : EReal :=
  att (band q k bias b ⟨l.val / 128, by omega⟩ s) (fun n => before v b (64 * (s.val / 64) + n.val) l)

/-- The result. -/
def spec (q k v : (⟨3, ![8, 2048, 1024]⟩ : Shape).Idx → EReal) (bias : (⟨4, ![3, 8, 256, 768]⟩ : Shape).Idx → EReal)
    (g : (⟨1, ![1024]⟩ : Shape).Idx → EReal) : (⟨3, ![8, 2048, 1024]⟩ : Shape).Idx → EReal := fun i =>
  norm (mixed q k v bias (i 0) (i 1)) (fun l => g (ix1 l)) (i 2)

end Cert.Attn

namespace Cert.AttnRef

open Cert.ReferenceIdeal Cert.ReferenceIdeal.Gen Cert.ReferenceIdeal.Value Idealize.ShloMosaic Idealize.ShloMosaic.TcCoe Idealize.SL.Sem
open Cert.Attn

variable (V0 : Valuation τ sig (Elt Ideal))

abbrev Q : FVec Ideal S8x2048x1024 .bf16 := V0 (Proc.devRef .tc main_arg0)
abbrev K : FVec Ideal S8x2048x1024 .bf16 := V0 (Proc.devRef .tc main_arg1)
abbrev W : FVec Ideal S8x2048x1024 .bf16 := V0 (Proc.devRef .tc main_arg2)
abbrev B : FVec Ideal S3x8x256x768 .f32 := V0 (Proc.devRef .tc main_arg3)
abbrev G : FVec Ideal S1024 .f32 := V0 (Proc.devRef .tc main_arg4)

theorem padded (x : FVec Ideal S8x2048x1024 .bf16) (b : Fin 8) (c : Fin 40) (t : Fin 64) (h : Fin 8) (e : Fin 128) :
    (pad S8x40x64x8x128 ![0, 8, 0, 0, 0] ![0, 0, 0, 0, 0] ![0, 0, 0, 0, 0] (shapeCast S8x32x64x8x128 (extf .f32 x bitsLt_bf16_f32) shapeCasts_S8x2048x1024_S8x32x64x8x128) (sitofp .f32 (constantI S_ 32 0#32)) pads_S8x32x64x8x128_S8x40x64x8x128_000_800_000_000_000 h_S_ : FVec Ideal S8x40x64x8x128 .f32) (ix5 b c t h e)
      = before x b (64 * c.val + t.val) ⟨128 * h.val + e.val, by omega⟩ := by
  unfold before
  pointwise
  split
  · rename_i hc
    rw [dif_pos (by omega)]
    exact congrArg x (same fun a => by
      match a with
      | ⟨0, _⟩ => rfl
      | ⟨1, _⟩ => show (c.val - 8) * 64 + t.val = 64 * c.val + t.val - 512; omega
      | ⟨2, _⟩ => show h.val * 128 + e.val = 128 * h.val + e.val; omega)
  · rename_i hc
    rw [dif_neg (by omega)]
    exact (congrArg (fun z : ℤ => (((z : ℝ)) : EReal)) (show (0#32 : BitVec 32).toInt = 0 from by decide)).trans (by simp)

theorem banded (x : FVec Ideal S8x40x64x8x128 .f32) (b : Fin 8) (c : Fin 32) (n : Fin 576) (h : Fin 8) (e : Fin 128) :
    (concatenate S8x32x576x8x128 2 [⟨S8x32x64x8x128, ((extractStridedSlice S8x32x64x8x128 ![0, 0, 0, 0, 0] x slices_S8x40x64x8x128_S8x32x64x8x128_0_0_0_0_0) : FVec Ideal S8x32x64x8x128 .f32)⟩, ⟨S8x32x64x8x128, ((extractStridedSlice S8x32x64x8x128 ![0, 1, 0, 0, 0] x slices_S8x40x64x8x128_S8x32x64x8x128_0_1_0_0_0) : FVec Ideal S8x32x64x8x128 .f32)⟩, ⟨S8x32x64x8x128, ((extractStridedSlice S8x32x64x8x128 ![0, 2, 0, 0, 0] x slices_S8x40x64x8x128_S8x32x64x8x128_0_2_0_0_0) : FVec Ideal S8x32x64x8x128 .f32)⟩, ⟨S8x32x64x8x128, ((extractStridedSlice S8x32x64x8x128 ![0, 3, 0, 0, 0] x slices_S8x40x64x8x128_S8x32x64x8x128_0_3_0_0_0) : FVec Ideal S8x32x64x8x128 .f32)⟩, ⟨S8x32x64x8x128, ((extractStridedSlice S8x32x64x8x128 ![0, 4, 0, 0, 0] x slices_S8x40x64x8x128_S8x32x64x8x128_0_4_0_0_0) : FVec Ideal S8x32x64x8x128 .f32)⟩, ⟨S8x32x64x8x128, ((extractStridedSlice S8x32x64x8x128 ![0, 5, 0, 0, 0] x slices_S8x40x64x8x128_S8x32x64x8x128_0_5_0_0_0) : FVec Ideal S8x32x64x8x128 .f32)⟩, ⟨S8x32x64x8x128, ((extractStridedSlice S8x32x64x8x128 ![0, 6, 0, 0, 0] x slices_S8x40x64x8x128_S8x32x64x8x128_0_6_0_0_0) : FVec Ideal S8x32x64x8x128 .f32)⟩, ⟨S8x32x64x8x128, ((extractStridedSlice S8x32x64x8x128 ![0, 7, 0, 0, 0] x slices_S8x40x64x8x128_S8x32x64x8x128_0_7_0_0_0) : FVec Ideal S8x32x64x8x128 .f32)⟩, ⟨S8x32x64x8x128, ((extractStridedSlice S8x32x64x8x128 ![0, 8, 0, 0, 0] x slices_S8x40x64x8x128_S8x32x64x8x128_0_8_0_0_0) : FVec Ideal S8x32x64x8x128 .f32)⟩] concatenates_S8x32x64x8x128_S8x32x64x8x128_S8x32x64x8x128_S8x32x64x8x128_S8x32x64x8x128_S8x32x64x8x128_S8x32x64x8x128_S8x32x64x8x128_S8x32x64x8x128_S8x32x576x8x128_d2 : FVec Ideal S8x32x576x8x128 .f32) (ix5 b c n h e)
      = x (ix5 b ⟨c.val + n.val / 64, by omega⟩ ⟨n.val % 64, by omega⟩ h e) := by
  pointwise
  have hx : ∀ (c1 c2 : ℕ) (h1 : c1 < 40) (h2 : c2 < 40) (n1 n2 : ℕ) (h3 : n1 < 64) (h4 : n2 < 64), c1 = c2 → n1 = n2 →
      x (ix5 b ⟨c1, h1⟩ ⟨n1, h3⟩ h e) = x (ix5 b ⟨c2, h2⟩ ⟨n2, h4⟩ h e) := by
    intro c1 c2 h1 h2 n1 n2 h3 h4 e1 e2
    subst e1 e2
    rfl
  repeat' split
  all_goals exact hx _ _ _ _ _ _ _ _ (by omega) (by omega)

/-- The reference's quotient by 64. -/
theorem quot : ∀ n < 768, Scalar.select
      (IntOp.andi (IntOp.cmpi CmpIPredicate.ne (if BitVec.ofNat 32 n = 0 then 0 else if (BitVec.ofNat 32 n).msb = true then -1 else 1)
          (if 64#32 = 0 then 0 else if BitVec.msb 64#32 = true then -1 else (1 : BitVec 32)))
        (IntOp.cmpi CmpIPredicate.ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32) = BitVec.ofNat 32 (n / 64) := by
  decide +kernel

theorem after_start : ∀ c < 32, ∀ k < 9, IntOp.cmpi CmpIPredicate.sge (IntOp.subi (IntOp.addi (BitVec.ofNat 32 c) (BitVec.ofNat 32 k)) 8#32) 0#32
    = if 8 ≤ c + k then 1#1 else 0#1 := by
  decide +kernel

theorem mask (b h : Fin 8) (c : Fin 32) (t : Fin 64) (n : Fin 576) :
    (show FVec Ideal S8x8x32x64x576 .f32 from res_main_v63 V0) (ix5 b h c t n)
      = (if 8 ≤ c.val + n.val / 64 then (show FVec Ideal S8x8x32x64x576 .f32 from res_main_v49 V0) (ix5 b h c t n) else (⊥ : EReal)) := by
  unfold res_main_v63 res_main_call2_v2 res_main_v53 res_main_call2_v0
  pointwise
  have e1 : id (constantI S_ 32 64#32) ix0 = 64#32 := rfl
  have e2 : (id (constant (F := Ideal) S_ FTy.f32 4286578688#32) ix0 : EReal) = ⊥ := bot_bits
  simp only [e1]
  erw [quot n.val (by omega), after_start c.val c.isLt (n.val / 64) (by omega), e2]
  split <;> rfl

theorem log_two : Ideal.log (Ideal.ofBits FTy.f32 1073741824#32) = (Real.log 2 : ℝ) := by
  have e : Ideal.ofBits FTy.f32 1073741824#32 = ((2 : ℝ) : EReal) := by
    simp [Ideal.ofBits, Ideal.ieee, -EReal.coe_mul]
    norm_num
  rw [e]
  exact if_neg (by norm_num)

theorem scores (x : FVec Ideal S8x2048x1024 .bf16) (kb : FVec Ideal S8x32x576x8x128 .f32) (bb : FVec Ideal S8x4x64x576 .f32)
    (b h : Fin 8) (c : Fin 32) (t : Fin 64) (n : Fin 576) :
    (mulf (shapeCast S8x8x32x64x576 (addf (shapeCast S8x8x8x4x64x576 (Host.dotGeneral dot_S8x32x64x8x128_S8x32x576x8x128_S8x8x32x64x576_4_4_2_2_031_031 none (shapeCast S8x32x64x8x128 (extf .f32 x bitsLt_bf16_f32) shapeCasts_S8x2048x1024_S8x32x64x8x128) kb) shapeCasts_S8x8x32x64x576_S8x8x8x4x64x576) (broadcastInDim S8x8x8x4x64x576 ![0, 1, 2, 3, 4, 5] bcast_S1x8x1x4x64x576_S8x8x8x4x64x576_0_1_2_3_4_5 (broadcastInDim S1x8x1x4x64x576 ![1, 3, 4, 5] bcast_S8x4x64x576_S1x8x1x4x64x576_1_3_4_5 bb))) shapeCasts_S8x8x8x4x64x576_S8x8x32x64x576) (broadcastInDim S8x8x32x64x576 ![] bcast_S_S8x8x32x64x576 (Host.log (constant S_ .f32 0x40000000#32))) : FVec Ideal S8x8x32x64x576 .f32) (ix5 b h c t n)
      = ((∑ e : Fin 128, x (ix3 b ⟨c.val * 64 + t.val, by omega⟩ ⟨h.val * 128 + e.val, by omega⟩) * kb (ix5 b c n h e)) + bb (ix4 h ⟨c.val % 4, by omega⟩ t n)) * (Real.log 2 : ℝ) := by
  pointwise
  exact congrArg _ log_two

theorem tables (x : FVec Ideal S3x8x256x768 .f32) (h : Fin 8) (u : Fin 4) (t : Fin 64) (n : Fin 576) :
    ((concatenate S8x4x64x576 1 [⟨S8x1x64x576, ((broadcastInDim S8x1x64x576 ![0, 2, 3] bcast_S8x64x576_S8x1x64x576_0_2_3 (shapeCast S8x64x576 (extractStridedSlice S1x8x64x576 ![2, 0, 0, 0] x slices_S3x8x256x768_S1x8x64x576_2_0_0_0) shapeCasts_S1x8x64x576_S8x64x576)) : FVec Ideal S8x1x64x576 .f32)⟩, ⟨S8x1x64x576, ((broadcastInDim S8x1x64x576 ![0, 2, 3] bcast_S8x64x576_S8x1x64x576_0_2_3 (shapeCast S8x64x576 (extractStridedSlice S1x8x64x576 ![2, 0, 64, 64] x slices_S3x8x256x768_S1x8x64x576_2_0_64_64) shapeCasts_S1x8x64x576_S8x64x576)) : FVec Ideal S8x1x64x576 .f32)⟩, ⟨S8x1x64x576, ((broadcastInDim S8x1x64x576 ![0, 2, 3] bcast_S8x64x576_S8x1x64x576_0_2_3 (shapeCast S8x64x576 (extractStridedSlice S1x8x64x576 ![2, 0, 128, 128] x slices_S3x8x256x768_S1x8x64x576_2_0_128_128) shapeCasts_S1x8x64x576_S8x64x576)) : FVec Ideal S8x1x64x576 .f32)⟩, ⟨S8x1x64x576, ((broadcastInDim S8x1x64x576 ![0, 2, 3] bcast_S8x64x576_S8x1x64x576_0_2_3 (shapeCast S8x64x576 (extractStridedSlice S1x8x64x576 ![2, 0, 192, 192] x slices_S3x8x256x768_S1x8x64x576_2_0_192_192) shapeCasts_S1x8x64x576_S8x64x576)) : FVec Ideal S8x1x64x576 .f32)⟩] concatenates_S8x1x64x576_S8x1x64x576_S8x1x64x576_S8x1x64x576_S8x4x64x576_d1 : FVec Ideal S8x4x64x576 .f32)) (ix4 h u t n)
      = x (ix4 2 h ⟨64 * u.val + t.val, by omega⟩ ⟨64 * u.val + n.val, by omega⟩) := by
  pointwise
  have hx : ∀ (c1 c2 : ℕ) (h1 : c1 < 256) (h2 : c2 < 256) (n1 n2 : ℕ) (h3 : n1 < 768) (h4 : n2 < 768), c1 = c2 → n1 = n2 →
      x (ix4 2 h ⟨c1, h1⟩ ⟨n1, h3⟩) = x (ix4 2 h ⟨c2, h2⟩ ⟨n2, h4⟩) := by
    intro c1 c2 h1 h2 n1 n2 h3 h4 e1 e2
    subst e1 e2
    rfl
  repeat' split
  all_goals exact hx _ _ _ _ _ _ _ _ (by omega) (by omega)

/-- The greatest score of a query. -/
def top (s : FVec Ideal S8x8x32x64x576 .f32) : FVec Ideal S8x8x32x64 .f32 :=
  Host.reduce FloatOps.maximumf s (constant S_ .f32 0xFF800000#32) reducesTo_S8x8x32x64x576_S8x8x32x64_d4 h_S_

theorem drop_iff (i : S8x8x32x64x576.Idx) (b h : Fin 8) (c : Fin 32) (t : Fin 64) :
    reducesTo_S8x8x32x64x576_S8x8x32x64_d4.drop i = ix4 b h c t ↔ i = ix5 b h c t (i 4) := by
  constructor
  · intro e
    have e0 := congrArg (fun z : S8x8x32x64.Idx => (z 0).val) e
    have e1 := congrArg (fun z : S8x8x32x64.Idx => (z 1).val) e
    have e2 := congrArg (fun z : S8x8x32x64.Idx => (z 2).val) e
    have e3 := congrArg (fun z : S8x8x32x64.Idx => (z 3).val) e
    funext a
    match a with
    | ⟨0, _⟩ => exact Fin.ext e0
    | ⟨1, _⟩ => exact Fin.ext e1
    | ⟨2, _⟩ => exact Fin.ext e2
    | ⟨3, _⟩ => exact Fin.ext e3
    | ⟨4, _⟩ => rfl
  · intro e
    rw [e]
    funext a
    match a with
    | ⟨0, _⟩ => rfl
    | ⟨1, _⟩ => rfl
    | ⟨2, _⟩ => rfl
    | ⟨3, _⟩ => rfl

theorem top_fold (s : FVec Ideal S8x8x32x64x576 .f32) (b h : Fin 8) (c : Fin 32) (t : Fin 64) :
    top s (ix4 b h c t) = (Finset.univ.filter fun i => reducesTo_S8x8x32x64x576_S8x8x32x64_d4.drop i = ix4 b h c t).fold
      (max : EReal → EReal → EReal) (Ideal.ofBits .f32 0xFF800000#32) s :=
  Host.reduce_eq_fold (max : EReal → EReal → EReal) s (constant (F := Ideal) S_ .f32 0xFF800000#32) reducesTo_S8x8x32x64x576_S8x8x32x64_d4 h_S_ (ix4 b h c t)

theorem top_real (s : FVec Ideal S8x8x32x64x576 .f32) (b h : Fin 8) (c : Fin 32) (t : Fin 64)
    (hs : ∀ n, s (ix5 b h c t n) ≠ ⊤) (hb : ∃ n, s (ix5 b h c t n) ≠ ⊥) : ∃ μ : ℝ, top s (ix4 b h c t) = μ := by
  rw [top_fold, bot_bits]
  refine exists_real _ (ne_of_lt ((Finset.fold_max_lt _).2 ⟨bot_lt_top, fun i hi => ?_⟩)) ?_
  · rw [(drop_iff i b h c t).1 (Finset.mem_filter.1 hi).2]
    exact lt_top_iff_ne_top.2 (hs _)
  · obtain ⟨n, hn⟩ := hb
    exact ne_of_gt ((Finset.lt_fold_max _).2 (.inr ⟨ix5 b h c t n, Finset.mem_filter.2 ⟨Finset.mem_univ _, (drop_iff _ b h c t).2 rfl⟩,
      bot_lt_iff_ne_bot.2 hn⟩))

theorem weights (s : FVec Ideal S8x8x32x64x576 .f32) (u : FVec Ideal S8x8x32x64 .f32) (b h : Fin 8) (c : Fin 32) (t : Fin 64) (n : Fin 576) :
    (Host.exp (subf s (broadcastInDim S8x8x32x64x576 ![0, 1, 2, 3, 4] bcast_S8x8x32x64x1_S8x8x32x64x576_0_1_2_3_4 (broadcastInDim S8x8x32x64x1 ![0, 1, 2, 3] bcast_S8x8x32x64_S8x8x32x64x1_0_1_2_3 (maximumf (broadcastInDim S8x8x32x64 ![] bcast_S_S8x8x32x64 (constant S_ .f32 0xFF800000#32)) u)))) : FVec Ideal S8x8x32x64x576 .f32) (ix5 b h c t n)
      = Ideal.exp (s (ix5 b h c t n) - u (ix4 b h c t)) := by
  pointwise
  rw [bot_bits, max_eq_right bot_le]

theorem mixes (vb : FVec Ideal S8x32x576x8x128 .f32) (p : FVec Ideal S8x8x32x64x576 .f32) (b : Fin 8) (s : Fin 2048) (l : Fin 1024) :
  (shapeCast S8x2048x1024 (transpose S8x32x64x8x128 [0, 1, 4, 2, 3] (Host.dotGeneral dot_S8x32x576x8x128_S8x8x32x64x576_S8x32x8x128x64_2_4_4_3_013_021 none vb (Host.divf p (broadcastInDim S8x8x32x64x576 ![0, 1, 2, 3, 4] bcast_S8x8x32x64x1_S8x8x32x64x576_0_1_2_3_4 (broadcastInDim S8x8x32x64x1 ![0, 1, 2, 3] bcast_S8x8x32x64_S8x8x32x64x1_0_1_2_3 (Host.reduceAdd p (constant S_ .f32 0x00000000#32) reducesTo_S8x8x32x64x576_S8x8x32x64_d4 h_S_))))) transposes_S8x32x8x128x64_S8x32x64x8x128_0_1_4_2_3) shapeCasts_S8x32x64x8x128_S8x2048x1024 : FVec Ideal S8x2048x1024 .f32) (ix3 b s l) = ∑ n : Fin 576,
        Ideal.div (p (ix5 b ⟨l.val / 128, by omega⟩ ⟨s.val / 64, by omega⟩ ⟨s.val % 64, by omega⟩ n))
          (∑ k : Fin 576, p (ix5 b ⟨l.val / 128, by omega⟩ ⟨s.val / 64, by omega⟩ ⟨s.val % 64, by omega⟩ k))
        * vb (ix5 b ⟨s.val / 64, by omega⟩ n ⟨l.val / 128, by omega⟩ ⟨l.val % 128, by omega⟩) := by
  pointwise
  exact Finset.sum_congr rfl fun n _ => mul_comm _ _

theorem normed (x : FVec Ideal S8x2048x1024 .f32) (g : FVec Ideal S1024 .f32) (b : Fin 8) (s : Fin 2048) (l : Fin 1024) :
    (truncf .bf16 (mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) bitsLt_bf16_f32 : FVec Ideal S8x2048x1024 .bf16) (ix3 b s l)
      = Attn.norm (fun k => x (ix3 b s k)) (fun k => g (ix1 k)) l := by
  unfold Attn.norm
  pointwise

/-- The scores the softmax takes, to base e. -/
theorem logits (b h : Fin 8) (c : Fin 32) (t : Fin 64) (n : Fin 576) :
    (show FVec Ideal S8x8x32x64x576 .f32 from res_main_v63 V0) (ix5 b h c t n)
      = band (Q V0) (K V0) (B V0) b h ⟨64 * c.val + t.val, by omega⟩ n * (Real.log 2 : ℝ) := by
  refine (mask V0 b h c t n).trans ?_
  unfold band
  have hc : 64 * ((64 * c.val + t.val) / 64) + n.val = 64 * c.val + n.val := by omega
  split
  · rename_i h8
    rw [if_pos (by show 512 ≤ 64 * ((64 * c.val + t.val) / 64) + n.val; omega)]
    refine (scores (Q V0) _ _ b h c t n).trans (congrArg (· * ((Real.log 2 : ℝ) : EReal)) (congrArg₂ (· + ·) (Finset.sum_congr rfl fun e _ => ?_) ?_))
    · refine congrArg₂ (· * ·) (congrArg (Q V0) (same fun a => ?_)) ?_
      · match a with
        | ⟨0, _⟩ => rfl
        | ⟨1, _⟩ => show c.val * 64 + t.val = 64 * c.val + t.val; omega
        | ⟨2, _⟩ => show h.val * 128 + e.val = 128 * h.val + e.val; omega
      · refine (banded _ b c n h e).trans ((padded (K V0) b _ _ h e).trans (congrArg (fun z => before (K V0) b z _) ?_))
        show 64 * (c.val + n.val / 64) + n.val % 64 = 64 * ((64 * c.val + t.val) / 64) + n.val
        omega
    · refine (tables (B V0) h _ t n).trans (congrArg (B V0) (same fun a => ?_))
      match a with
      | ⟨0, _⟩ => rfl
      | ⟨1, _⟩ => rfl
      | ⟨2, _⟩ => show 64 * (c.val % 4) + t.val = (64 * c.val + t.val) % 256; omega
      | ⟨3, _⟩ => show 64 * (c.val % 4) + n.val = 64 * ((64 * c.val + t.val) % 256 / 64) + n.val; omega
  · rename_i h8
    rw [if_neg (by show ¬512 ≤ 64 * ((64 * c.val + t.val) / 64) + n.val; omega)]
    exact (EReal.bot_mul_coe_of_pos (Real.log_pos (by norm_num))).symm

/-- The reference's attention before the norm. -/
theorem attended (b : Fin 8) (s : Fin 2048) (l : Fin 1024)
    (hs : ∀ n, band (Q V0) (K V0) (B V0) b ⟨l.val / 128, by omega⟩ s n ≠ ⊤) (hb : ∃ n, band (Q V0) (K V0) (B V0) b ⟨l.val / 128, by omega⟩ s n ≠ ⊥) :
    (show FVec Ideal S8x2048x1024 .f32 from res_main_v77 V0) (ix3 b s l) = mixed (Q V0) (K V0) (W V0) (B V0) b s l := by
  have hl : ∀ n, (show FVec Ideal S8x8x32x64x576 .f32 from res_main_v63 V0) (ix5 b ⟨l.val / 128, by omega⟩ ⟨s.val / 64, by omega⟩ ⟨s.val % 64, by omega⟩ n)
      = band (Q V0) (K V0) (B V0) b ⟨l.val / 128, by omega⟩ s n * (Real.log 2 : ℝ) := by
    intro n
    refine (logits V0 b _ _ _ n).trans ?_
    refine congrArg (fun z => band (Q V0) (K V0) (B V0) b _ z n * ((Real.log 2 : ℝ) : EReal)) (Fin.ext ?_)
    show 64 * (s.val / 64) + s.val % 64 = s.val
    omega
  have hlog : (0 : ℝ) < Real.log 2 := Real.log_pos (by norm_num)
  obtain ⟨μ, hμ⟩ := top_real (res_main_v63 V0) b ⟨l.val / 128, by omega⟩ ⟨s.val / 64, by omega⟩ ⟨s.val % 64, by omega⟩
    (fun n => by
      refine ne_of_eq_of_ne (hl n) ?_
      have := hs n
      generalize band (Q V0) (K V0) (B V0) b ⟨l.val / 128, by omega⟩ s n = x at this
      induction x with
      | bot => rw [EReal.bot_mul_coe_of_pos hlog]; exact bot_ne_top
      | top => exact absurd rfl this
      | coe r => rw [← EReal.coe_mul]; exact EReal.coe_ne_top _)
    (by
      obtain ⟨n, hn⟩ := hb
      refine ⟨n, ne_of_eq_of_ne (hl n) ?_⟩
      have h2 := hs n
      generalize band (Q V0) (K V0) (B V0) b ⟨l.val / 128, by omega⟩ s n = x at hn h2
      induction x with
      | bot => exact absurd rfl hn
      | top => exact absurd rfl h2
      | coe r => rw [← EReal.coe_mul]; exact EReal.coe_ne_bot _)
  have hp : ∀ n, (show FVec Ideal S8x8x32x64x576 .f32 from res_main_v70 V0) (ix5 b ⟨l.val / 128, by omega⟩ ⟨s.val / 64, by omega⟩ ⟨s.val % 64, by omega⟩ n)
      = Ideal.exp (band (Q V0) (K V0) (B V0) b ⟨l.val / 128, by omega⟩ s n * (Real.log 2 : ℝ) - μ) := by
    intro n
    refine (weights (res_main_v63 V0) (top (res_main_v63 V0)) b _ _ _ n).trans (congrArg Ideal.exp ?_)
    exact congrArg₂ (· - ·) (hl n) hμ
  refine (mixes _ (res_main_v70 V0) b s l).trans (Eq.trans (Finset.sum_congr rfl fun n _ => ?_) (att_exp _ _ hs hb μ))
  refine congrArg₂ (· * ·) (congrArg₂ Ideal.div (hp n) (Finset.sum_congr rfl fun k _ => hp k)) ?_
  refine (banded _ b _ n _ _).trans ((padded (W V0) b _ _ _ _).trans (congrArg₂ (fun z => before (W V0) b z) ?_ (Fin.ext ?_)))
  · show 64 * (s.val / 64 + n.val / 64) + n.val % 64 = 64 * (s.val / 64) + n.val
    omega
  · show 128 * (l.val / 128) + l.val % 128 = l.val
    omega

/-- The reference's result. -/
theorem final (hs : ∀ b h s n, band (Q V0) (K V0) (B V0) b h s n ≠ ⊤) (hb : ∀ b h s, ∃ n, band (Q V0) (K V0) (B V0) b h s n ≠ ⊥) :
    truncf .bf16 (mulf (mulf (res_main_v77 V0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v77 V0) (res_main_v77 V0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (V0 (Proc.devRef .tc main_arg4))))) bitsLt_bf16_f32
      = spec (Q V0) (K V0) (W V0) (B V0) (G V0) := by
  funext i
  obtain ⟨b, s, l, rfl⟩ : ∃ (b : Fin 8) (s : Fin 2048) (l : Fin 1024), i = ix3 b s l := ⟨i 0, i 1, i 2, funext fun a => by
    match a with
    | ⟨0, _⟩ => rfl
    | ⟨1, _⟩ => rfl
    | ⟨2, _⟩ => rfl⟩
  refine (normed (res_main_v77 V0) (G V0) b s l).trans ?_
  exact congrArg (fun f => Attn.norm f (fun k => G V0 (ix1 k)) l) (funext fun k => attended V0 b s k (fun n => hs _ _ _ n) (hb _ _ _))

end Cert.AttnRef

end
-- ==== Proof.AttnOut.lean ====
module

public import proofs.«01_k».proof.Proof.Gen.KernelIdeal.Value
public import proofs.«01_k».proof.Proof.AttnBody
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

variable (i : grid0.Coords) (x0 x1 x2 x3 x4 : Vec Ideal S1x512x1024 .bf16) (x5 : Vec Ideal S3x8x256x768 .f32) (x6 : Vec Ideal S1x1024 .f32)
variable (c : Dev nD) (a2 : Memref sig .tc .vmem S1x512x1024 .bf16) (h2 : a2.IsWhole)
  (a3 : Memref sig .tc .vmem S1x512x1024 .bf16) (h3 : a3.IsWhole) (a4 : Memref sig .tc .vmem S1x512x1024 .bf16) (h4 : a4.IsWhole)
  (a5 : Memref sig .tc .vmem S1x512x1024 .bf16) (h5 : a5.IsWhole) (a6 : Memref sig .tc .vmem S1x512x1024 .bf16) (h6 : a6.IsWhole)
  (a7 : Memref sig .tc .vmem S3x8x256x768 .f32) (h7 : a7.IsWhole) (a8 : Memref sig .tc .vmem S1x1024 .f32) (h8 : a8.IsWhole)
  (a9 : Memref sig .tc .vmem S1x512x1024 .bf16) (h9 : a9.IsWhole) (a10 : Memref sig .tc .vmem S512x1024 .f32) (h10 : a10.IsWhole)
  (a11 : Memref sig .tc .vmem S8x1024x256 .bf16) (h11 : a11.IsWhole)
  (xs1 : Vec Ideal S8x1024x256 .bf16)

set_option maxHeartbeats 1000000 in
theorem out_A (hc0 : cond0_0 i) (hs : ∀ qb h r c, scoreAt i x0 x1 x2 x5 qb h r c ≠ ⊤) (hb : ∀ qb h r, ∃ c, scoreAt i x0 x1 x2 x5 qb h r c ≠ ⊥) :
    out0_A_7 c i a2 h2 a3 h3 a4 h4 a5 h5 a6 h6 a7 h7 a8 h8 a9 h9 a10 h10 a11 h11 hc0 x0 x1 x2 x3 x4 x5 x6 = blockOf i x0 x1 x2 x3 x4 x5 x6 := by
  funext y
  unfold out0_A_7
  rw [View.read_writes_eq_canon _ _ _ (cover0_A_7 c i a2 h2 a3 h3 a4 h4 a5 h5 a6 h6 a7 h7 a8 h8 a9 h9 a10 h10 a11 h11 hc0 x0 x1 x2 x3 x4 x5 x6)]
  unfold kernelRun0_A
  dsimp only
  sl_unfold_words
  simp only [View.readAt_eq_ld, h2.read_unread, h3.read_unread, h4.read_unread, h5.read_unread, h6.read_unread, h7.read_unread, h8.read_unread, readCov_part, norm_pay', head_0_0, head_0_1, head_0_2, head_0_3, head_0_4, head_0_5, head_0_6, head_0_7, head_1_0, head_1_1, head_1_2, head_1_3, head_1_4, head_1_5, head_1_6, head_1_7]
  have hV : ∀ L : List (View.Piece (Elt Ideal) S8x1024x256 .bf16), (∀ y, ∃ p ∈ L, y ∈ p.1.set) →
      (∀ p ∈ L, ∀ x : p.1.shape.Idx, p.2 x = vextOf x3 x4 (p.1.emb x)) → View.canon L = vextOf x3 x4 := fun L h h' =>
    funext fun y => View.canon_apply_of_pieces _ L h' y (h y)
  rw [hV _ (View.cover_of_tiledBy (s := S8x1024x256) _ ![1, 512, 128] (by sl_kernel_rfl)) (by
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩⟩
    · exact fun y => vext_piece x3 x4 7 896 512 x4 rfl (fun k col => (rowAt_hi x3 x4 k.val k.isLt col).symm) _ (by decide) y
    · exact fun y => vext_piece x3 x4 7 896 0 x3 rfl (fun k col => (low x3 x4 k col).symm) _ (by decide) y
    · exact fun y => vext_piece x3 x4 6 768 512 x4 rfl (fun k col => (rowAt_hi x3 x4 k.val k.isLt col).symm) _ (by decide) y
    · exact fun y => vext_piece x3 x4 6 768 0 x3 rfl (fun k col => (low x3 x4 k col).symm) _ (by decide) y
    · exact fun y => vext_piece x3 x4 5 640 512 x4 rfl (fun k col => (rowAt_hi x3 x4 k.val k.isLt col).symm) _ (by decide) y
    · exact fun y => vext_piece x3 x4 5 640 0 x3 rfl (fun k col => (low x3 x4 k col).symm) _ (by decide) y
    · exact fun y => vext_piece x3 x4 4 512 512 x4 rfl (fun k col => (rowAt_hi x3 x4 k.val k.isLt col).symm) _ (by decide) y
    · exact fun y => vext_piece x3 x4 4 512 0 x3 rfl (fun k col => (low x3 x4 k col).symm) _ (by decide) y
    · exact fun y => vext_piece x3 x4 3 384 512 x4 rfl (fun k col => (rowAt_hi x3 x4 k.val k.isLt col).symm) _ (by decide) y
    · exact fun y => vext_piece x3 x4 3 384 0 x3 rfl (fun k col => (low x3 x4 k col).symm) _ (by decide) y
    · exact fun y => vext_piece x3 x4 2 256 512 x4 rfl (fun k col => (rowAt_hi x3 x4 k.val k.isLt col).symm) _ (by decide) y
    · exact fun y => vext_piece x3 x4 2 256 0 x3 rfl (fun k col => (low x3 x4 k col).symm) _ (by decide) y
    · exact fun y => vext_piece x3 x4 1 128 512 x4 rfl (fun k col => (rowAt_hi x3 x4 k.val k.isLt col).symm) _ (by decide) y
    · exact fun y => vext_piece x3 x4 1 128 0 x3 rfl (fun k col => (low x3 x4 k col).symm) _ (by decide) y
    · exact fun y => vext_piece x3 x4 0 0 512 x4 rfl (fun k col => (rowAt_hi x3 x4 k.val k.isLt col).symm) _ (by decide) y
    · exact fun y => vext_piece x3 x4 0 0 0 x3 rfl (fun k col => (low x3 x4 k col).symm) _ (by decide) y
    · exact fun y => ones_piece x3 x4 (by decide) y
    )]
  rw [show View.ld x6 (Rect.unit (s := S1x1024) ![0, 0] ![1, 1024] inb_S1x1024_S1x1024_0_0) = x6 from View.ld_unit_zero (S := S1x1024) hz _ x6]
  refine View.canon_apply_of_pieces _ _ ?_ y (View.cover_of_tiledL (s := S1x512x1024) _ ![1, 256, 1024] (by sl_kernel_rfl) y)
  refine List.forall_mem_cons.2 ⟨?_, List.forall_mem_cons.2 ⟨?_, List.forall_mem_nil _⟩⟩
  · refine norm_piece i x0 x1 x2 x3 x4 x5 x6 256 _ (fun r => by omega) (fun r l => ?_) (by decide)
    rw [View.ld_unit_apply_of _ _ _ _ _ (ix2 (⟨256 + r.val, by omega⟩ : Fin 512) l) (fun a => by
      match a with
      | ⟨0, _⟩ => rfl
      | ⟨1, _⟩ => exact (Nat.zero_add _).symm)]
    refine View.canon_apply_of_pieces _ _ ?_ _ (View.cover_of_tiledL (s := S512x1024) _ ![256, 128] (by sl_kernel_rfl) _)
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
    · exact fun y => head_piece i x0 x1 x2 x3 x4 x5 1 7 256 896 7 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 6 256 768 6 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 5 256 640 5 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 4 256 512 4 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 3 256 384 3 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 2 256 256 2 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 1 256 128 1 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 0 256 0 0 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 0 7 0 896 7 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 6 0 768 6 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 5 0 640 5 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 4 0 512 4 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 3 0 384 3 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 2 0 256 2 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 1 0 128 1 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 0 0 0 0 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
  · refine norm_piece i x0 x1 x2 x3 x4 x5 x6 0 _ (fun r => by omega) (fun r l => ?_) (by decide)
    rw [View.ld_unit_apply_of _ _ _ _ _ (ix2 (⟨0 + r.val, by omega⟩ : Fin 512) l) (fun a => by
      match a with
      | ⟨0, _⟩ => rfl
      | ⟨1, _⟩ => exact (Nat.zero_add _).symm)]
    refine View.canon_apply_of_pieces _ _ ?_ _ (cover_part _ (⟨Rect.unit ![256, 0] ![256, 1024] inb_S512x1024_S256x1024_256_0, fun _ => (0 : EReal)⟩ : View.Piece (Elt Ideal) S512x1024 .f32) _
      (View.cover_of_tiledBy (s := S512x1024) _ ![256, 128] (by sl_kernel_rfl) _) fun hm => ?_)
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
      · exact fun y => head_piece i x0 x1 x2 x3 x4 x5 0 7 0 896 7 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 6 0 768 6 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 5 0 640 5 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 4 0 512 4 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 3 0 384 3 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 2 0 256 2 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 1 0 128 1 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 0 0 0 0 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · have h' : 256 ≤ 0 + r.val := mem_half _ hm
      omega

set_option maxHeartbeats 1000000 in
theorem out_B (hc0 : ¬cond0_0 i) (hs : ∀ qb h r c, scoreAt i x0 x1 x2 x5 qb h r c ≠ ⊤) (hb : ∀ qb h r, ∃ c, scoreAt i x0 x1 x2 x5 qb h r c ≠ ⊥)
    (ho : ∀ y : S8x1024x256.Idx, 128 ≤ (y 2).val → xs1 y = 1) :
    out0_B_7 c i a2 h2 a3 h3 a4 h4 a5 h5 a6 h6 a7 h7 a8 h8 a9 h9 a10 h10 a11 h11 hc0 x0 x1 x2 x3 x4 x5 x6 xs1 = blockOf i x0 x1 x2 x3 x4 x5 x6 := by
  funext y
  unfold out0_B_7
  rw [View.read_writes_eq_canon _ _ _ (cover0_B_7 c i a2 h2 a3 h3 a4 h4 a5 h5 a6 h6 a7 h7 a8 h8 a9 h9 a10 h10 a11 h11 hc0 x0 x1 x2 x3 x4 x5 x6 xs1)]
  unfold kernelRun0_B
  dsimp only
  sl_unfold_words
  simp only [View.readAt_eq_ld, h2.read_unread, h3.read_unread, h4.read_unread, h5.read_unread, h6.read_unread, h7.read_unread, h8.read_unread, readCov_part, norm_pay', head_0_0, head_0_1, head_0_2, head_0_3, head_0_4, head_0_5, head_0_6, head_0_7, head_1_0, head_1_1, head_1_2, head_1_3, head_1_4, head_1_5, head_1_6, head_1_7]
  rw [read_over a11 h11 xs1 (vextOf x3 x4) (⟨Rect.unit ![0, 0, 128] ![8, 1024, 128] inb_S8x1024x256_S8x1024x128_0_0_128, fun _ => (1 : EReal)⟩ : View.Piece (Elt Ideal) S8x1024x256 .bf16) _
    (View.cover_of_tiledBy (s := S8x1024x256) _ ![1, 512, 128] (by sl_kernel_rfl)) (by
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
    · exact fun y => vext_piece x3 x4 7 896 512 x4 rfl (fun k col => (rowAt_hi x3 x4 k.val k.isLt col).symm) _ (by decide) y
    · exact fun y => vext_piece x3 x4 7 896 0 x3 rfl (fun k col => (low x3 x4 k col).symm) _ (by decide) y
    · exact fun y => vext_piece x3 x4 6 768 512 x4 rfl (fun k col => (rowAt_hi x3 x4 k.val k.isLt col).symm) _ (by decide) y
    · exact fun y => vext_piece x3 x4 6 768 0 x3 rfl (fun k col => (low x3 x4 k col).symm) _ (by decide) y
    · exact fun y => vext_piece x3 x4 5 640 512 x4 rfl (fun k col => (rowAt_hi x3 x4 k.val k.isLt col).symm) _ (by decide) y
    · exact fun y => vext_piece x3 x4 5 640 0 x3 rfl (fun k col => (low x3 x4 k col).symm) _ (by decide) y
    · exact fun y => vext_piece x3 x4 4 512 512 x4 rfl (fun k col => (rowAt_hi x3 x4 k.val k.isLt col).symm) _ (by decide) y
    · exact fun y => vext_piece x3 x4 4 512 0 x3 rfl (fun k col => (low x3 x4 k col).symm) _ (by decide) y
    · exact fun y => vext_piece x3 x4 3 384 512 x4 rfl (fun k col => (rowAt_hi x3 x4 k.val k.isLt col).symm) _ (by decide) y
    · exact fun y => vext_piece x3 x4 3 384 0 x3 rfl (fun k col => (low x3 x4 k col).symm) _ (by decide) y
    · exact fun y => vext_piece x3 x4 2 256 512 x4 rfl (fun k col => (rowAt_hi x3 x4 k.val k.isLt col).symm) _ (by decide) y
    · exact fun y => vext_piece x3 x4 2 256 0 x3 rfl (fun k col => (low x3 x4 k col).symm) _ (by decide) y
    · exact fun y => vext_piece x3 x4 1 128 512 x4 rfl (fun k col => (rowAt_hi x3 x4 k.val k.isLt col).symm) _ (by decide) y
    · exact fun y => vext_piece x3 x4 1 128 0 x3 rfl (fun k col => (low x3 x4 k col).symm) _ (by decide) y
    · exact fun y => vext_piece x3 x4 0 0 512 x4 rfl (fun k col => (rowAt_hi x3 x4 k.val k.isLt col).symm) _ (by decide) y
    · exact fun y => vext_piece x3 x4 0 0 0 x3 rfl (fun k col => (low x3 x4 k col).symm) _ (by decide) y
    ) (fun y hm => (ho y (mem_ones y hm)).trans (vextOf_ones x3 x4 y (mem_ones y hm)).symm)]
  rw [show View.ld x6 (Rect.unit (s := S1x1024) ![0, 0] ![1, 1024] inb_S1x1024_S1x1024_0_0) = x6 from View.ld_unit_zero (S := S1x1024) hz _ x6]
  refine View.canon_apply_of_pieces _ _ ?_ y (View.cover_of_tiledL (s := S1x512x1024) _ ![1, 256, 1024] (by sl_kernel_rfl) y)
  refine List.forall_mem_cons.2 ⟨?_, List.forall_mem_cons.2 ⟨?_, List.forall_mem_nil _⟩⟩
  · refine norm_piece i x0 x1 x2 x3 x4 x5 x6 256 _ (fun r => by omega) (fun r l => ?_) (by decide)
    rw [View.ld_unit_apply_of _ _ _ _ _ (ix2 (⟨256 + r.val, by omega⟩ : Fin 512) l) (fun a => by
      match a with
      | ⟨0, _⟩ => rfl
      | ⟨1, _⟩ => exact (Nat.zero_add _).symm)]
    refine View.canon_apply_of_pieces _ _ ?_ _ (View.cover_of_tiledL (s := S512x1024) _ ![256, 128] (by sl_kernel_rfl) _)
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
    · exact fun y => head_piece i x0 x1 x2 x3 x4 x5 1 7 256 896 7 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 6 256 768 6 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 5 256 640 5 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 4 256 512 4 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 3 256 384 3 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 2 256 256 2 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 1 256 128 1 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 1 0 256 0 0 256 0 256 _ rfl rfl rfl (page_words i 1 1#32 rfl) x1 x2 x2 (fun k col h => rowK x1 x2 _ _ (by show (256 + k.val) = 256 + k.val; omega) col h) (fun k col h => rowK' x1 x2 _ _ (by show 512 + (0 + k.val) = 256 + (256 + k.val); omega) col h) (fun k col h => rowK' x1 x2 _ _ (by show 512 + (256 + k.val) = 256 + (512 + k.val); omega) col h) _ _ _ _ _ _ _ _ (by decide) hs hb y
    · exact fun y => head_piece i x0 x1 x2 x3 x4 x5 0 7 0 896 7 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 6 0 768 6 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 5 0 640 5 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 4 0 512 4 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 3 0 384 3 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 2 0 256 2 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 1 0 128 1 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · exact fun y => head_piece i x0 x1 x2 x3 x4 x5 0 0 0 0 0 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
  · refine norm_piece i x0 x1 x2 x3 x4 x5 x6 0 _ (fun r => by omega) (fun r l => ?_) (by decide)
    rw [View.ld_unit_apply_of _ _ _ _ _ (ix2 (⟨0 + r.val, by omega⟩ : Fin 512) l) (fun a => by
      match a with
      | ⟨0, _⟩ => rfl
      | ⟨1, _⟩ => exact (Nat.zero_add _).symm)]
    refine View.canon_apply_of_pieces _ _ ?_ _ (cover_part _ (⟨Rect.unit ![256, 0] ![256, 1024] inb_S512x1024_S256x1024_256_0, fun _ => (0 : EReal)⟩ : View.Piece (Elt Ideal) S512x1024 .f32) _
      (View.cover_of_tiledBy (s := S512x1024) _ ![256, 128] (by sl_kernel_rfl) _) fun hm => ?_)
    · refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
      · exact fun y => head_piece i x0 x1 x2 x3 x4 x5 0 7 0 896 7 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 6 0 768 6 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 5 0 640 5 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 4 0 512 4 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 3 0 384 3 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 2 0 256 2 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 1 0 128 1 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
      · exact fun y => head_piece i x0 x1 x2 x3 x4 x5 0 0 0 0 0 0 256 0 _ rfl rfl rfl (page_words i 0 0#32 rfl) x1 x1 x2 (fun k col h => rowK x1 x2 _ _ (by show (0 + k.val) = 0 + k.val; omega) col h) (fun k col h => rowK x1 x2 _ _ (by show (256 + k.val) = 0 + (256 + k.val); omega) col h) (fun k col h => rowK' x1 x2 _ _ (by show 512 + (0 + k.val) = 0 + (512 + k.val); omega) col h) _ _ _ _ _ _ _ _ (by decide) hs hb y
    · have h' : 256 ≤ 0 + r.val := mem_half _ hm
      omega

end Cert.Attn

end
-- ==== Proof.Attn.lean ====
/- The attention kernel's array: every point's block is the attention of its 512 queries, over the band of keys of each. -/
module

public import proofs.«01_k».proof.Proof.AttnRef
public import proofs.«01_k».proof.Proof.AttnOut
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Attn

open Cert.KernelIdeal Cert.KernelIdeal.Gen Cert.KernelIdeal.Value Idealize.ShloMosaic Idealize.ShloMosaic.TcCoe Idealize.SL.Sem

/-- A number: neither infinity. -/
def Num (x : EReal) : Prop := x ≠ ⊤ ∧ x ≠ ⊥

/-- A query of the table's row sees the column on page `p`. -/
def Sees (p : Fin 3) (r : Fin 256) (c : Fin 768) : Prop :=
  r.val / 64 ≤ c.val / 64 ∧ c.val / 64 ≤ r.val / 64 + 8 ∧ (2 - p.val) * 256 ≤ c.val

/-- Finite queries and keys; a table finite where a query sees the key, the same there as on the last page, and minus infinity elsewhere. -/
structure Ok (q k : S8x2048x1024.Idx → EReal) (bias : S3x8x256x768.Idx → EReal) : Prop where
  q : ∀ i, Num (q i)
  k : ∀ i, Num (k i)
  seen : ∀ p h r c, Sees p r c → Num (bias (ix4 p h r c)) ∧ bias (ix4 p h r c) = bias (ix4 2 h r c)
  hidden : ∀ p h r c, ¬Sees p r c → bias (ix4 p h r c) = ⊥

theorem before_num (x : S8x2048x1024.Idx → EReal) (hx : ∀ i, Num (x i)) (b : Fin 8) (n : ℕ) (l : Fin 1024) : Num (before x b n l) := by
  unfold before
  split
  · exact hx _
  · exact ⟨EReal.zero_ne_top, EReal.zero_ne_bot⟩

theorem add_num (x y : EReal) (hx : ∃ μ : ℝ, x = μ) (hy : Num y) : Num (x + y) := by
  obtain ⟨μ, rfl⟩ := hx
  obtain ⟨ν, rfl⟩ := exists_real y hy.1 hy.2
  rw [← EReal.coe_add]
  exact ⟨EReal.coe_ne_top _, EReal.coe_ne_bot _⟩

section Band

variable (q k : S8x2048x1024.Idx → EReal) (bias : S3x8x256x768.Idx → EReal) (ok : Ok q k bias)
include ok

theorem band_num (b h : Fin 8) (s : Fin 2048) (n : Fin 576) (hn : 512 ≤ 64 * (s.val / 64) + n.val) : Num (band q k bias b h s n) := by
  unfold band
  rw [if_pos hn]
  refine add_num _ _ (dot_real _ _ (fun e => ok.q _) (fun e => before_num k ok.k _ _ _)) (ok.seen 2 h _ _ ⟨?_, ?_, ?_⟩).1
  · show s.val % 256 / 64 ≤ (64 * (s.val % 256 / 64) + n.val) / 64; omega
  · show (64 * (s.val % 256 / 64) + n.val) / 64 ≤ s.val % 256 / 64 + 8; omega
  · exact le_of_eq_of_le (by decide) (Nat.zero_le _)

theorem band_ne_top (b h : Fin 8) (s : Fin 2048) (n : Fin 576) : band q k bias b h s n ≠ ⊤ := by
  by_cases hn : 512 ≤ 64 * (s.val / 64) + n.val
  · exact (band_num q k bias ok b h s n hn).1
  · unfold band
    rw [if_neg hn]
    exact bot_ne_top

theorem band_ne_bot (b h : Fin 8) (s : Fin 2048) : ∃ n, band q k bias b h s n ≠ ⊥ :=
  ⟨512, (band_num q k bias ok b h s 512 (by show 512 ≤ 64 * (s.val / 64) + 512; omega)).2⟩

end Band

section Tile

variable (q k v : S8x2048x1024.Idx → EReal) (bias : S3x8x256x768.Idx → EReal) (ok : Ok q k bias)
variable (i : grid0.Coords) (x0 x1 x2 x3 x4 : Vec Ideal S1x512x1024 .bf16) (x5 : Vec Ideal S3x8x256x768 .f32)
variable (b : Fin 8) (T : ℕ) (hT : T < 4)

/-- The rows of two tiles one after the other are the rows of the sequence, 512 rows in. -/
theorem rowAt_before (x y : Vec Ideal S1x512x1024 .bf16)
    (ex : ∀ (r : Fin 512) (l : Fin 1024), x (ix3 0 r l) = k (ix3 b ⟨(T - 1) * 512 + r.val, by omega⟩ l))
    (ey : ∀ (r : Fin 512) (l : Fin 1024), y (ix3 0 r l) = k (ix3 b ⟨T * 512 + r.val, by omega⟩ l))
    (n : ℕ) (hn : n < 1024) (h : 512 ≤ 512 * T + n) (l : Fin 1024) : rowAt x y n l = before k b (512 * T + n) l := by
  unfold before
  rw [dif_pos ⟨h, by omega⟩]
  by_cases hlt : n < 512
  · rw [rowAt_lo x y n hlt l, ex]
    exact congrArg (fun z => k (ix3 b z l)) (Fin.ext (by show (T - 1) * 512 + n = 512 * T + n - 512; omega))
  · obtain ⟨n', rfl⟩ : ∃ n', n = 512 + n' := ⟨n - 512, by omega⟩
    rw [rowAt_hi x y n' (by omega) l, ey]
    exact congrArg (fun z => k (ix3 b z l)) (Fin.ext (by show T * 512 + n' = 512 * T + (512 + n') - 512; omega))

theorem rowAt_num (x y : Vec Ideal S1x512x1024 .bf16) (hk : ∀ i, Num (k i))
    (ex : ∀ (r : Fin 512) (l : Fin 1024), x (ix3 0 r l) = k (ix3 b ⟨(T - 1) * 512 + r.val, by omega⟩ l))
    (ey : ∀ (r : Fin 512) (l : Fin 1024), y (ix3 0 r l) = k (ix3 b ⟨T * 512 + r.val, by omega⟩ l))
    (n : ℕ) (l : Fin 1024) : Num (rowAt x y n l) := by
  unfold rowAt
  split
  · rw [ex]; exact hk _
  · split
    · rw [ey]; exact hk _
    · exact ⟨EReal.zero_ne_top, EReal.zero_ne_bot⟩

variable (e0 : ∀ (r : Fin 512) (l : Fin 1024), x0 (ix3 0 r l) = q (ix3 b ⟨T * 512 + r.val, by omega⟩ l))
  (e1 : ∀ (r : Fin 512) (l : Fin 1024), x1 (ix3 0 r l) = k (ix3 b ⟨(T - 1) * 512 + r.val, by omega⟩ l))
  (e2 : ∀ (r : Fin 512) (l : Fin 1024), x2 (ix3 0 r l) = k (ix3 b ⟨T * 512 + r.val, by omega⟩ l))
  (e3 : ∀ (r : Fin 512) (l : Fin 1024), x3 (ix3 0 r l) = v (ix3 b ⟨(T - 1) * 512 + r.val, by omega⟩ l))
  (e4 : ∀ (r : Fin 512) (l : Fin 1024), x4 (ix3 0 r l) = v (ix3 b ⟨T * 512 + r.val, by omega⟩ l))
  (e5 : ∀ p h r c, x5 (ix4 p h r c) = bias (ix4 p h r c))

include ok hT e0 e1 e2 e5

theorem dots_real (qb : Fin 2) (h : Fin 8) (r : Fin 256) (c : Fin 768) :
    ∃ μ : ℝ, (∑ e : Fin 128, x0 (ix3 0 ⟨256 * qb.val + r.val, by omega⟩ ⟨128 * h.val + e.val, by omega⟩)
      * rowAt x1 x2 (256 * qb.val + c.val) ⟨128 * h.val + e.val, by omega⟩) = μ :=
  dot_real _ _ (fun e => by rw [e0]; exact ok.q _) (fun e => rowAt_num k b T hT x1 x2 ok.k e1 e2 _ _)

theorem score_ne_top (qb : Fin 2) (h : Fin 8) (r : Fin 256) (c : Fin 768) : scoreAt i x0 x1 x2 x5 qb h r c ≠ ⊤ := by
  unfold scoreAt
  rw [e5]
  by_cases hs : Sees (page i qb) r c
  · exact (add_num _ _ (dots_real q k bias ok x0 x1 x2 x5 b T hT e0 e1 e2 e5 qb h r c) (ok.seen _ _ _ _ hs).1).1
  · rw [ok.hidden _ _ _ _ hs, EReal.add_bot]
    exact bot_ne_top

theorem score_ne_bot (qb : Fin 2) (h : Fin 8) (r : Fin 256) : ∃ c, scoreAt i x0 x1 x2 x5 qb h r c ≠ ⊥ := by
  have hr := r.isLt
  refine ⟨⟨64 * (r.val / 64) + 512, by omega⟩, ?_⟩
  unfold scoreAt
  rw [e5]
  refine (add_num _ _ (dots_real q k bias ok x0 x1 x2 x5 b T hT e0 e1 e2 e5 qb h r _) (ok.seen _ _ _ _ ⟨?_, ?_, ?_⟩).1).2
  · show r.val / 64 ≤ (64 * (r.val / 64) + 512) / 64; omega
  · show (64 * (r.val / 64) + 512) / 64 ≤ r.val / 64 + 8; omega
  · show (2 - (page i qb).val) * 256 ≤ 64 * (r.val / 64) + 512; omega

variable (hi : (i 1).val = T)
include hi

/-- The score of the `n`th key of the band, and the score of its column. -/
theorem band_score (qb : Fin 2) (h : Fin 8) (r : Fin 256) (n : Fin 576) (s : Fin 2048) (hs : s.val = 512 * T + 256 * qb.val + r.val) :
    band q k bias b h s n = scoreAt i x0 x1 x2 x5 qb h r ⟨64 * (r.val / 64) + n.val, by omega⟩ := by
  have hr := r.isLt
  have hq := qb.isLt
  have hn := n.isLt
  have hp : (page i qb).val = min (2 * T + qb.val) 2 := by rw [← hi]; rfl
  have h64 : 64 * (s.val / 64) + n.val = 512 * T + (256 * qb.val + (64 * (r.val / 64) + n.val)) := by omega
  unfold band scoreAt
  rw [e5]
  have hsee : Sees (page i qb) r ⟨64 * (r.val / 64) + n.val, by omega⟩ ↔ 512 ≤ 64 * (s.val / 64) + n.val := by
    unfold Sees
    rw [hp]
    show r.val / 64 ≤ (64 * (r.val / 64) + n.val) / 64 ∧ (64 * (r.val / 64) + n.val) / 64 ≤ r.val / 64 + 8
      ∧ (2 - min (2 * T + qb.val) 2) * 256 ≤ 64 * (r.val / 64) + n.val ↔ _
    omega
  split
  · rename_i hc
    rw [(ok.seen _ h r _ (hsee.2 hc)).2]
    refine congrArg₂ (· + ·) (Finset.sum_congr rfl fun e _ => ?_) (congrArg bias (same fun a => ?_))
    · rw [e0]
      refine congrArg₂ (· * ·) (congrArg q (same fun a => ?_)) ?_
      · match a with
        | ⟨0, _⟩ => rfl
        | ⟨1, _⟩ => show s.val = T * 512 + (256 * qb.val + r.val); omega
        | ⟨2, _⟩ => rfl
      · rw [h64] at hc ⊢
        exact (rowAt_before k b T hT x1 x2 e1 e2 _ (by omega) hc _).symm
    · match a with
      | ⟨0, _⟩ => rfl
      | ⟨1, _⟩ => rfl
      | ⟨2, _⟩ => show s.val % 256 = r.val; omega
      | ⟨3, _⟩ => show 64 * (s.val % 256 / 64) + n.val = 64 * (r.val / 64) + n.val; omega
  · rename_i hc
    rw [ok.hidden _ _ _ _ (fun hh => hc (hsee.1 hh)), EReal.add_bot]

include e3 e4

/-- A tile's attention is the reference's. -/
theorem acc_mixed (r : Fin 512) (l : Fin 1024) (s : Fin 2048) (hs : s.val = 512 * T + r.val) :
    accOf i x0 x1 x2 x3 x4 x5 (ix2 r l) = mixed q k v bias b s l := by
  have hr := r.isLt
  have hl := l.isLt
  unfold accOf mixed
  have key := fun n : Fin 576 => band_score q k bias ok i x0 x1 x2 x5 b T hT e0 e1 e2 e5 hi ⟨r.val / 256, by omega⟩ ⟨l.val / 128, by omega⟩ ⟨r.val % 256, by omega⟩ n s
    (by show s.val = 512 * T + 256 * (r.val / 256) + r.val % 256; omega)
  symm
  refine att_embed _ _ _ _ (fun n : Fin 576 => (⟨64 * (r.val % 256 / 64) + n.val, by omega⟩ : Fin 768)) ?_ ?_ key ?_
  · intro n n' e
    have := congrArg Fin.val e
    exact Fin.ext (Nat.add_left_cancel this)
  · intro c hc
    have hno : ¬Sees (page i ⟨r.val / 256, by omega⟩) ⟨r.val % 256, by omega⟩ c := by
      rintro ⟨h1, h2, -⟩
      have h1' : r.val % 256 / 64 ≤ c.val / 64 := h1
      have h2' : c.val / 64 ≤ r.val % 256 / 64 + 8 := h2
      exact hc ⟨⟨c.val - 64 * (r.val % 256 / 64), by omega⟩, Fin.ext (by
        show 64 * (r.val % 256 / 64) + (c.val - 64 * (r.val % 256 / 64)) = c.val
        omega)⟩
    show scoreAt i x0 x1 x2 x5 ⟨r.val / 256, by omega⟩ ⟨l.val / 128, by omega⟩ ⟨r.val % 256, by omega⟩ c = ⊥
    unfold scoreAt
    rw [e5, ok.hidden _ _ _ _ hno, EReal.add_bot]
  · intro n hn
    have hc : 512 ≤ 64 * (s.val / 64) + n.val := by
      by_contra hc
      exact hn (if_neg hc)
    have h64 : 64 * (s.val / 64) + n.val = 512 * T + (256 * (r.val / 256) + (64 * (r.val % 256 / 64) + n.val)) := by omega
    rw [h64] at hc
    rw [h64]
    exact (rowAt_before v b T hT x3 x4 e3 e4 _ (by omega) hc l).symm

end Tile

section Array

variable (m : (ℓ : Loc nD τ sig) → Buf (Elt Ideal) ℓ) (c : Dev nD)

abbrev Q : S8x2048x1024.Idx → EReal := m ((c : Thread nD τ).loc main_arg0)
abbrev K : S8x2048x1024.Idx → EReal := m ((c : Thread nD τ).loc main_arg1)
abbrev W : S8x2048x1024.Idx → EReal := m ((c : Thread nD τ).loc main_arg2)
abbrev B : S3x8x256x768.Idx → EReal := m ((c : Thread nD τ).loc main_arg3)
abbrev G : S1024.Idx → EReal := m ((c : Thread nD τ).loc main_arg4)

theorem idx03 : ∀ t : Fin cfg0.N, win0_0.index t 0 = t.val / 4 ∧ win0_0.index t 1 = t.val % 4 ∧ win0_0.index t 2 = 0
    ∧ win0_1.index t 0 = t.val / 4 ∧ win0_1.index t 1 = t.val % 4 - 1 ∧ win0_1.index t 2 = 0
    ∧ win0_2.index t 0 = t.val / 4 ∧ win0_2.index t 1 = t.val % 4 ∧ win0_2.index t 2 = 0 := by
  decide +kernel

theorem idx36 : ∀ t : Fin cfg0.N, win0_3.index t 0 = t.val / 4 ∧ win0_3.index t 1 = t.val % 4 - 1 ∧ win0_3.index t 2 = 0
    ∧ win0_4.index t 0 = t.val / 4 ∧ win0_4.index t 1 = t.val % 4 ∧ win0_4.index t 2 = 0
    ∧ win0_5.index t 0 = 0 ∧ win0_5.index t 1 = 0 ∧ win0_5.index t 2 = 0 ∧ win0_5.index t 3 = 0
    ∧ win0_6.index t 0 = 0 ∧ win0_6.index t 1 = 0 := by
  decide +kernel

theorem tile_of : ∀ t : Fin cfg0.N, ((grid0.coords t) 1).val = t.val % 4 := by
  decide +kernel

theorem blk0 (t : Fin cfg0.N) (r : Fin 512) (l : Fin 1024) (h : t.val / 4 < 8) (h' : t.val % 4 * 512 + r.val < 2048) :
    (iblk m c 0 t : Vec Ideal S1x512x1024 .bf16) (ix3 0 r l) = Q m c (ix3 ⟨t.val / 4, h⟩ ⟨t.val % 4 * 512 + r.val, h'⟩ l) := by
  blk_ext [iblk, V, idx03 t]

theorem blk1 (t : Fin cfg0.N) (r : Fin 512) (l : Fin 1024) (h : t.val / 4 < 8) (h' : (t.val % 4 - 1) * 512 + r.val < 2048) :
    (iblk m c 1 t : Vec Ideal S1x512x1024 .bf16) (ix3 0 r l) = K m c (ix3 ⟨t.val / 4, h⟩ ⟨(t.val % 4 - 1) * 512 + r.val, h'⟩ l) := by
  blk_ext [iblk, V, idx03 t]

theorem blk2 (t : Fin cfg0.N) (r : Fin 512) (l : Fin 1024) (h : t.val / 4 < 8) (h' : t.val % 4 * 512 + r.val < 2048) :
    (iblk m c 2 t : Vec Ideal S1x512x1024 .bf16) (ix3 0 r l) = K m c (ix3 ⟨t.val / 4, h⟩ ⟨t.val % 4 * 512 + r.val, h'⟩ l) := by
  blk_ext [iblk, V, idx03 t]

theorem blk3 (t : Fin cfg0.N) (r : Fin 512) (l : Fin 1024) (h : t.val / 4 < 8) (h' : (t.val % 4 - 1) * 512 + r.val < 2048) :
    (iblk m c 3 t : Vec Ideal S1x512x1024 .bf16) (ix3 0 r l) = W m c (ix3 ⟨t.val / 4, h⟩ ⟨(t.val % 4 - 1) * 512 + r.val, h'⟩ l) := by
  blk_ext [iblk, V, idx36 t]

theorem blk4 (t : Fin cfg0.N) (r : Fin 512) (l : Fin 1024) (h : t.val / 4 < 8) (h' : t.val % 4 * 512 + r.val < 2048) :
    (iblk m c 4 t : Vec Ideal S1x512x1024 .bf16) (ix3 0 r l) = W m c (ix3 ⟨t.val / 4, h⟩ ⟨t.val % 4 * 512 + r.val, h'⟩ l) := by
  blk_ext [iblk, V, idx36 t]

theorem blk5 (t : Fin cfg0.N) (p : Fin 3) (h : Fin 8) (r : Fin 256) (d : Fin 768) :
    (iblk m c 5 t : Vec Ideal S3x8x256x768 .f32) (ix4 p h r d) = B m c (ix4 p h r d) := by
  blk_ext [iblk, V, idx36 t]

theorem blk6 (t : Fin cfg0.N) (l : Fin 1024) :
    (iblk m c 6 t : Vec Ideal S1x1024 .f32) (ix2 0 l) = G m c (ix1 l) := by
  blk_ext! [iblk, V, idx36 t]

variable (ok : Ok (Q m c) (K m c) (B m c))
include ok

/-- What point `t` leaves: its block, and its tiles' values beside ones. -/
theorem outs_eq : ∀ (n : ℕ) (t : Fin cfg0.N), t.val = n →
    outsAt0 m c t.val t.isLt = (blockOf (grid0.coords t) (iblk m c 0 t) (iblk m c 1 t) (iblk m c 2 t) (iblk m c 3 t) (iblk m c 4 t) (iblk m c 5 t) (iblk m c 6 t),
      vextOf (iblk m c 3 t) (iblk m c 4 t)) := by
  intro n
  induction n with
  | zero =>
    intro t ht
    have hN : t.val < 32 := lt_of_lt_of_eq t.isLt N_0
    refine (outsAt0_A m c t (by omega)).trans (congrArg₂ Prod.mk (out_A _ _ _ _ _ _ _ _ _ _ _ _ _ _ _ _ _ _ _ _ _ _ _ _ _ _ _ _ _ _ ?_ ?_) (vext_A ..))
    · exact score_ne_top (Q m c) (K m c) (B m c) ok _ _ _ _ _ ⟨t.val / 4, by omega⟩ (t.val % 4) (by omega) (fun r l => blk0 m c t r l _ _)
        (fun r l => blk1 m c t r l _ _) (fun r l => blk2 m c t r l _ _) (blk5 m c t)
    · exact score_ne_bot (Q m c) (K m c) (B m c) ok _ _ _ _ _ ⟨t.val / 4, by omega⟩ (t.val % 4) (by omega) (fun r l => blk0 m c t r l _ _)
        (fun r l => blk1 m c t r l _ _) (fun r l => blk2 m c t r l _ _) (blk5 m c t)
  | succ n ih =>
    intro t ht
    have hN : t.val < 32 := lt_of_lt_of_eq t.isLt N_0
    have hp : outsAt0 m c (t.val - 1) (Nat.lt_of_le_of_lt (Nat.sub_le _ _) t.isLt) = _ := ih ⟨t.val - 1, Nat.lt_of_le_of_lt (Nat.sub_le _ _) t.isLt⟩ (by show t.val - 1 = n; omega)
    have ho : ∀ y : S8x1024x256.Idx, 128 ≤ (y 2).val → (outsAt0 m c (t.val - 1) (Nat.lt_of_le_of_lt (Nat.sub_le _ _) t.isLt)).2 y = 1 := by
      intro y hy
      rw [hp]
      exact vextOf_ones _ _ y hy
    refine (outsAt0_B m c t (by omega)).trans (congrArg₂ Prod.mk (out_B _ _ _ _ _ _ _ _ _ _ _ _ _ _ _ _ _ _ _ _ _ _ _ _ _ _ _ _ _ _ _ ?_ ?_ ho)
      (vext_B _ _ _ _ _ _ _ _ _ _ _ _ _ _ _ _ _ _ _ _ _ _ _ _ _ _ _ _ _ _ _ ho))
    · exact score_ne_top (Q m c) (K m c) (B m c) ok _ _ _ _ _ ⟨t.val / 4, by omega⟩ (t.val % 4) (by omega) (fun r l => blk0 m c t r l _ _)
        (fun r l => blk1 m c t r l _ _) (fun r l => blk2 m c t r l _ _) (blk5 m c t)
    · exact score_ne_bot (Q m c) (K m c) (B m c) ok _ _ _ _ _ ⟨t.val / 4, by omega⟩ (t.val % 4) (by omega) (fun r l => blk0 m c t r l _ _)
        (fun r l => blk1 m c t r l _ _) (fun r l => blk2 m c t r l _ _) (blk5 m c t)

/-- What the kernel's array ends holding. -/
theorem final : G7 m c = spec (Q m c) (K m c) (W m c) (B m c) (G m c) := by
  funext i
  have h0 : (i 0).val < 8 := (i 0).isLt
  have h1 : (i 1).val < 2048 := (i 1).isLt
  have h2 : (i 2).val < 1024 := (i 2).isLt
  have hp : pt7Of i = 4 * (i 0).val + (i 1).val / 512 := by unfold pt7Of run7Of; omega
  have hlt : pt7Of i < cfg0.N := by exact lt_of_lt_of_eq (by omega) N_0.symm
  have hd : pt7Of i / 4 = (i 0).val := by omega
  have hm : pt7Of i % 4 = (i 1).val / 512 := by omega
  unfold G7
  rw [dif_pos hlt, ← outsAt0_sweep m c (pt7Of i) hlt, outs_eq m c ok _ ⟨pt7Of i, hlt⟩ rfl]
  show Attn.norm (fun l => accOf (grid0.coords ⟨pt7Of i, hlt⟩) (iblk m c 0 ⟨pt7Of i, hlt⟩) (iblk m c 1 ⟨pt7Of i, hlt⟩) (iblk m c 2 ⟨pt7Of i, hlt⟩) (iblk m c 3 ⟨pt7Of i, hlt⟩)
      (iblk m c 4 ⟨pt7Of i, hlt⟩) (iblk m c 5 ⟨pt7Of i, hlt⟩) (ix2 (loc7Of i 1) l)) (fun l => (iblk m c 6 ⟨pt7Of i, hlt⟩ : Vec Ideal S1x1024 .f32) (ix2 0 l)) (loc7Of i 2) = Attn.norm _ _ _
  refine congr (congr (congrArg Attn.norm (funext fun l => ?_)) (funext fun l => blk6 m c _ l)) (Fin.ext ?_)
  · refine (acc_mixed (Q m c) (K m c) (W m c) (B m c) ok _ _ _ _ _ _ _ ⟨pt7Of i / 4, by omega⟩ (pt7Of i % 4) (by omega) (fun r l => blk0 m c _ r l _ _)
      (fun r l => blk1 m c _ r l _ _) (fun r l => blk2 m c _ r l _ _) (fun r l => blk3 m c _ r l _ _) (fun r l => blk4 m c _ r l _ _) (blk5 m c _) (tile_of _) _ l (i 1) ?_).trans ?_
    · show (i 1).val = 512 * (pt7Of i % 4) + (i 1).val % 512
      omega
    · exact congrArg (fun z => mixed (Q m c) (K m c) (W m c) (B m c) z (i 1) l) (Fin.ext hd)
  · show (i 2).val % 1024 = (i 2).val
    omega

end Array

end Cert.Attn

end
-- ==== Proof.AttnRun.lean ====
/- The attention call and its reference: what the precondition says of the arguments, and the claim. -/
module

public import proofs.«01_k».proof.Defs
public import proofs.«01_k».proof.Proof.Attn
public import proofs.«01_k».proof.Proof.Gen.ReferenceIdeal.Run

@[expose] public section

set_option maxRecDepth 16384

noncomputable section

namespace Cert.AttnPre

open Cert.Pre_banded Idealize.ShloMosaic

theorem facts : Cert.Pre_banded.Facts := ⟨by decide, by decide, by decide, by decide, by decide⟩

attribute [local instance] facts

theorem top_bits : Ideal.ofBits .f32 2139095040#32 = (⊤ : EReal) := by
  simp [Ideal.ofBits, Ideal.ieee]

theorem ofBool_one (a : Bool) (h : BitVec.ofBool a = 1#1) : a = true := by
  revert h; revert a; decide

theorem num_of (x : EReal) (h : BitVec.ofBool (decide ((FloatOps.absf (F := Ideal) (φ := .f32) x : EReal) < Ideal.ofBits .f32 2139095040#32)) = 1#1) : Cert.Attn.Num x := by
  rw [top_bits] at h
  have h' : max x (-x) < ⊤ := of_decide_eq_true (ofBool_one _ h)
  refine ⟨fun e => ?_, fun e => ?_⟩
  · rw [e] at h'; exact absurd h' (by simp)
  · rw [e] at h'; exact absurd h' (by simp)

theorem ge_word : ∀ a < 12, ∀ b < 4, IntOp.cmpi CmpIPredicate.sge (BitVec.ofNat 32 a) (BitVec.ofNat 32 b) = if b ≤ a then 1#1 else 0#1 := by
  decide +kernel

theorem le_word : ∀ a < 12, ∀ b < 4, IntOp.cmpi CmpIPredicate.sle (BitVec.ofNat 32 a) (IntOp.addi (BitVec.ofNat 32 b) 8#32) = if a ≤ b + 8 then 1#1 else 0#1 := by
  decide +kernel

theorem page_word : ∀ p < 3, ∀ c < 768, IntOp.cmpi CmpIPredicate.sge (BitVec.ofNat 32 c) (IntOp.muli (IntOp.subi 2#32 (BitVec.ofNat 32 p)) 256#32)
    = if (2 - p) * 256 ≤ c then 1#1 else 0#1 := by
  decide +kernel

theorem and_word (P Q R : Prop) [Decidable P] [Decidable Q] [Decidable R] :
    IntOp.andi (IntOp.andi (if P then 1#1 else 0#1) (if Q then 1#1 else 0#1)) (if R then 1#1 else 0#1) = if P ∧ Q ∧ R then 1#1 else 0#1 := by
  by_cases hP : P <;> by_cases hQ : Q <;> by_cases hR : R <;> simp [hP, hQ, hR] <;> decide

theorem select_word (P : Prop) [Decidable P] (x y : BitVec 1) : Scalar.select (if P then 1#1 else 0#1) x y = if P then x else y := by
  by_cases hP : P <;> simp [hP, Scalar.select]

theorem table (q k v : FVec Ideal S8x2048x1024 .bf16) (bias : FVec Ideal S3x8x256x768 .f32) (g : FVec Ideal S1024 .f32)
    (H : (Cert.Pre_banded.fn (F := Ideal) q k v bias g).2.2 = fun _ => 1#1) (p : Fin 3) (h : Fin 8) (r : Fin 256) (c : Fin 768) :
    if r.val / 64 ≤ c.val / 64 ∧ c.val / 64 ≤ r.val / 64 + 8 ∧ (2 - p.val) * 256 ≤ c.val then Cert.Attn.Num (bias (ix4 p h r c)) ∧ bias (ix4 p h r c) = bias (ix4 2 h r c)
    else bias (ix4 p h r c) = (⊥ : EReal) := by
  have := congrFun H (ix4 p h r c)
  unfold fn fn_part1 fn_floor_divide fn_where_0 fn_where at this
  dsimp only at this
  pointwise at this
  erw [Cert.AttnRef.quot c.val c.isLt, Cert.AttnRef.quot r.val (by omega)] at this
  rw [ge_word _ (by omega) _ (by omega), le_word _ (by omega) _ (by omega), page_word _ p.isLt _ c.isLt, and_word, select_word] at this
  split at this
  · rename_i hc
    rw [if_pos hc]
    have hand : ∀ a b : Bool, IntOp.andi (BitVec.ofBool a) (BitVec.ofBool b) = 1#1 → a = true ∧ b = true := by decide
    obtain ⟨h1, h2⟩ := hand _ _ this
    exact ⟨num_of _ (congrArg BitVec.ofBool h1), of_decide_eq_true h2⟩
  · rename_i hc
    rw [if_neg hc]
    exact (of_decide_eq_true (ofBool_one _ this)).trans Cert.Attn.bot_bits

theorem query (q k v : FVec Ideal S8x2048x1024 .bf16) (bias : FVec Ideal S3x8x256x768 .f32) (g : FVec Ideal S1024 .f32)
    (H : (Cert.Pre_banded.fn (F := Ideal) q k v bias g).1 = fun _ => 1#1) (i : S8x2048x1024.Idx) : Cert.Attn.Num (q i) := by
  obtain ⟨b, s, l, rfl⟩ : ∃ b s l, i = ix3 b s l := ⟨_, _, _, (ix3_eta i).symm⟩
  have := congrFun H (ix3 b s l)
  unfold fn fn_part1 at this
  dsimp only at this
  pointwise at this
  exact num_of _ this

theorem key (q k v : FVec Ideal S8x2048x1024 .bf16) (bias : FVec Ideal S3x8x256x768 .f32) (g : FVec Ideal S1024 .f32)
    (H : (Cert.Pre_banded.fn (F := Ideal) q k v bias g).2.1 = fun _ => 1#1) (i : S8x2048x1024.Idx) : Cert.Attn.Num (k i) := by
  obtain ⟨b, s, l, rfl⟩ : ∃ b s l, i = ix3 b s l := ⟨_, _, _, (ix3_eta i).symm⟩
  have := congrFun H (ix3 b s l)
  unfold fn fn_part1 at this
  dsimp only at this
  pointwise at this
  exact num_of _ this

/-- What the precondition says. -/
theorem ok (q k v : FVec Ideal S8x2048x1024 .bf16) (bias : FVec Ideal S3x8x256x768 .f32) (g : FVec Ideal S1024 .f32)
    (H : (Cert.Pre_banded.fn (F := Ideal) q k v bias g).1 = (fun _ => 1#1) ∧ (Cert.Pre_banded.fn (F := Ideal) q k v bias g).2.1 = (fun _ => 1#1)
      ∧ (Cert.Pre_banded.fn (F := Ideal) q k v bias g).2.2 = (fun _ => 1#1)) : Cert.Attn.Ok q k bias where
  q := query q k v bias g H.1
  k := key q k v bias g H.2.1
  seen p h r c hs := by
    have := table q k v bias g H.2.2 p h r c
    rwa [if_pos (show r.val / 64 ≤ c.val / 64 ∧ c.val / 64 ≤ r.val / 64 + 8 ∧ (2 - p.val) * 256 ≤ c.val from hs)] at this
  hidden p h r c hs := by
    have := table q k v bias g H.2.2 p h r c
    rwa [if_neg (show ¬(r.val / 64 ≤ c.val / 64 ∧ c.val / 64 ≤ r.val / 64 + 8 ∧ (2 - p.val) * 256 ≤ c.val) from hs)] at this

theorem okOf {q k q' k' : S8x2048x1024.Idx → EReal} {bias bias' : S3x8x256x768.Idx → EReal} (h : Cert.Attn.Ok q k bias) (e0 : q' = q) (e1 : k' = k) (e3 : bias' = bias) :
    Cert.Attn.Ok q' k' bias' := by
  rw [e0, e1, e3]
  exact h

end Cert.AttnPre

namespace Cert.Proof

open Idealize.ShloMosaic Idealize.SL.Sem

/-- The reference keeps its arguments and leaves every counter at zero. -/
theorem frameRef : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention call and its reference leave the same array. -/
theorem algebraic : Cert.algebraic_KernelIdeal_ReferenceIdeal_pre_banded
    (hKernelIdeal := Cert.KernelIdeal.Gen.facts) (hReferenceIdeal := Cert.ReferenceIdeal.Gen.facts) (hPre_banded := Cert.AttnPre.facts) := by
  intro m ρ m' ρ' hpre hag
  have hok : ∀ c, Cert.Attn.Ok (Cert.Attn.Q m c) (Cert.Attn.K m c) (Cert.Attn.B m c) := fun c => Cert.AttnPre.ok _ _ _ _ _ (hpre c)
  refine ⟨fun c => Cert.Attn.spec (Cert.Attn.Q m c) (Cert.Attn.K m c) (Cert.Attn.W m c) (Cert.Attn.B m c) (Cert.Attn.G m c), ?_, ?_⟩
  · exact (θ_run _ _ _).mono (fun r h c => ⟨(h c).1.trans (Cert.Attn.final m c (hok c)), (h c).2⟩) (Cert.KernelIdeal.Value.run m ρ)
  · refine (θ_run _ _ _).mono (fun r h c => ?_) (Cert.ReferenceIdeal.Value.run (F := Ideal) m' ρ')
    obtain ⟨h0, h1, h2, h3, h4⟩ := hag c
    have hok' := Cert.AttnPre.okOf (hok c) h0 h1 h3
    refine ⟨(h c).1.trans ((Cert.AttnRef.final _ ?_ ?_).trans ?_), (h c).2⟩
    · exact Cert.Attn.band_ne_top _ _ _ hok'
    · exact Cert.Attn.band_ne_bot _ _ _ hok'
    · unfold Cert.Attn.Q Cert.Attn.K Cert.Attn.W Cert.Attn.B Cert.Attn.G
      exact congr (congr (congr (congr (congrArg Cert.Attn.spec h0) h1) h2) h3) h4

end Cert.Proof

end
-- ==== Proof.FfnBody.lean ====
/- The feed-forward call, one grid point: what each of the two cases of its body leaves in the output block and in the
   scratch that carries the normalised rows, read entry by entry over the extended reals. -/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Ffn

open Cert.Kernel2Ideal Cert.Kernel2Ideal.Gen Idealize.ShloMosaic Idealize.ShloMosaic.TcCoe Idealize.SL.Sem

theorem hz : (![0, 0] : Fin 2 → Nat) = fun _ => 0 := funext fun a => by fin_cases a <;> rfl

/-- One entry of a normalised row `x` of 2048 numbers under the gain `g`. -/
def norm (x g : Fin 2048 → EReal) (k : Fin 2048) : EReal :=
  x k * Ideal.rsqrt (Ideal.div (∑ l : Fin 2048, x l * x l) (Ideal.ofBits .f32 0x45000000#32)
    + Ideal.ofBits .f32 0x358637BD#32) * g k

/-- One hidden unit: the row `h` against the column `w`, its negative part dropped, squared. -/
def unit (h w : Fin 2048 → EReal) : EReal :=
  max (∑ k : Fin 2048, h k * w k) 0 * max (∑ k : Fin 2048, h k * w k) 0

theorem pay6_apply (h : Vec Ideal S512x2048 .bf16) (w1 : Vec Ideal S2048x512 .bf16) (acc : Vec Ideal S512x2048 .f32)
    (w2 : Vec Ideal S512x2048 .bf16) (r : Fin 512) (d : Fin 2048) :
    k0_pay6 h w1 acc w2 (ix2 r d) = acc (ix2 r d)
      + ∑ j : Fin 512, unit (fun k => h (ix2 r k)) (fun k => w1 (ix2 k j)) * w2 (ix2 j d) := by
  unfold k0_pay6 unit
  pointwise

theorem pay7_eq : k0_pay7 (F := Ideal) = k0_pay6 := rfl
theorem pay1_eq : k0_pay1 (F := Ideal) = k0_pay6 := rfl
theorem pay2_eq : k0_pay2 (F := Ideal) = k0_pay6 := rfl

theorem pay3_apply (x : Vec Ideal S256x2048 .f32) (g : Vec Ideal S1x2048 .f32) (r : Fin 256) (k : Fin 2048) :
    k0_pay3 x g (ix2 r k) = norm (fun l => x (ix2 r l)) (fun l => g (ix2 0 l)) k := by
  unfold k0_pay3 norm
  pointwise

theorem pay54_apply (x : Vec Ideal S256x2048 .f32) (g : Vec Ideal S1x2048 .f32) (r : Fin 256) (k : Fin 2048) :
    k0_pay5 (k0_pay4 x g) (ix2 r k) = norm (fun l => x (ix2 r l)) (fun l => g (ix2 0 l)) k := by
  unfold k0_pay5 k0_pay4 norm
  pointwise

/-- What one chunk of 512 hidden units, from number `o` on, adds to entry `d` of the row whose normalised form is `h`. -/
def chunk (h : Fin 2048 → EReal) (w1 w2 : Vec Ideal S2048x2048 .bf16) (d : Fin 2048) (o : ℕ) (ho : o + 512 ≤ 2048) : EReal :=
  ∑ j : Fin 512, unit h (fun k => w1 (ix2 k ⟨o + j.val, by omega⟩)) * w2 (ix2 ⟨o + j.val, by omega⟩ d)

variable (c : Dev nD) (i : grid0.Coords) (a2 : Memref sig .tc .vmem S512x2048 .f32) (h2 : a2.IsWhole)
  (a3 : Memref sig .tc .vmem S1x2048 .f32) (h3 : a3.IsWhole) (a4 : Memref sig .tc .vmem S2048x2048 .bf16) (h4 : a4.IsWhole)
  (a5 : Memref sig .tc .vmem S2048x2048 .bf16) (h5 : a5.IsWhole) (a6 : Memref sig .tc .vmem S512x2048 .f32) (h6 : a6.IsWhole)
  (a7 : Memref sig .tc .vmem S512x2048 .bf16) (h7 : a7.IsWhole)
  (x0 : Vec Ideal S512x2048 .f32) (x1 : Vec Ideal S1x2048 .f32) (x2 x3 : Vec Ideal S2048x2048 .bf16)

/-- Two indices are one when their coordinates are. -/
theorem same {S : Shape} {x y : S.Idx} (h : ∀ a, (x a).val = (y a).val) : x = y := funext fun a => Fin.ext (h a)

/-- A load of the whole buffer reads the stores below it. -/
theorem readCov_whole {S : Shape} {e : EltTy} {sp : Space} {v : View sig .tc sp S e} {off : Fin S.rank → Nat} (h : off = fun _ => 0)
    (inb : ∀ a, off a + S.size a ≤ S.size a) (L : List (View.Piece (Elt Ideal) S e)) :
    v.readCov L (Rect.unit off S.size inb).toLoadRect = View.canon L := by
  subst h
  rw [View.readCov_eq_canon']
  funext j
  exact congrArg _ (Rect.emb_whole_apply S j)

/-- Two stores of 256 rows each leave what both leave. -/
theorem halves {e : EltTy} (G : S512x2048.Idx → Elt Ideal e) (p q : S256x2048.Idx → Elt Ideal e)
    (hp : ∀ (r : Fin 256) (k : Fin 2048), p (ix2 r k) = G (ix2 ⟨256 + r.val, by omega⟩ k))
    (hq : ∀ (r : Fin 256) (k : Fin 2048), q (ix2 r k) = G (ix2 ⟨r.val, by omega⟩ k)) :
    View.canon [(⟨Rect.unit ![256, 0] ![256, 2048] inb_S512x2048_S256x2048_256_0, p⟩   : View.Piece (Elt Ideal) S512x2048 e),
      ⟨Rect.unit ![0, 0] ![256, 2048] inb_S512x2048_S256x2048_0_0, q⟩] = G := by
  funext y
  refine View.canon_apply_of_pieces G _ ?_ y ?_
  · intro pc hpc x
    rcases List.mem_cons.mp hpc with rfl | hpc
    · refine (show p x = p (ix2 (x 0) (x 1)) from congrArg p (same fun b => by fin_cases b <;> rfl)).trans ((hp _ _).trans (congrArg G ?_))
      refine same fun b => Eq.trans ?_ (Rect.idx_unit_val _ _ inb_S512x2048_S256x2048_256_0 x b).symm
      match b with
      | ⟨0, _⟩ => rfl
      | ⟨1, _⟩ => exact (Nat.zero_add _).symm
    · rcases List.mem_cons.mp hpc with rfl | hpc
      · refine (show q x = q (ix2 (x 0) (x 1)) from congrArg q (same fun b => by fin_cases b <;> rfl)).trans ((hq _ _).trans (congrArg G ?_))
        refine same fun b => Eq.trans ?_ (Rect.idx_unit_val _ _ inb_S512x2048_S256x2048_0_0 x b).symm
        match b with
        | ⟨0, _⟩ => exact (Nat.zero_add _).symm
        | ⟨1, _⟩ => exact (Nat.zero_add _).symm
      · simp at hpc
  · exact View.cover_of_tiled_head _ _ _ (by sl_kernel_rfl) y

/-- The four chunks of a grid point, added in order. -/
theorem four (X2 X3 : Vec Ideal S2048x2048 .bf16) (hb : Vec Ideal S512x2048 .bf16) (acc : Vec Ideal S512x2048 .f32) (r : Fin 512) (d : Fin 2048) :
    k0_pay6 hb (View.ld X2 (Rect.unit (s := S2048x2048) ![0, 1536] ![2048, 512] inb_S2048x2048_S2048x512_0_1536))
      (k0_pay6 hb (View.ld X2 (Rect.unit (s := S2048x2048) ![0, 1024] ![2048, 512] inb_S2048x2048_S2048x512_0_1024))
        (k0_pay6 hb (View.ld X2 (Rect.unit (s := S2048x2048) ![0, 512] S2048x512.size inb_S2048x2048_S2048x512_0_512))
          (k0_pay6 hb (View.ld X2 (Rect.unit (s := S2048x2048) ![0, 0] S2048x512.size inb_S2048x2048_S2048x512_0_0)) acc
            (View.ld X3 (Rect.unit (s := S2048x2048) ![0, 0] S512x2048.size inb_S2048x2048_S512x2048_0_0)))
          (View.ld X3 (Rect.unit (s := S2048x2048) ![512, 0] S512x2048.size inb_S2048x2048_S512x2048_512_0)))
        (View.ld X3 (Rect.unit (s := S2048x2048) ![1024, 0] ![512, 2048] inb_S2048x2048_S512x2048_1024_0)))
      (View.ld X3 (Rect.unit (s := S2048x2048) ![1536, 0] ![512, 2048] inb_S2048x2048_S512x2048_1536_0)) (ix2 r d)
    = acc (ix2 r d) + chunk (fun k => hb (ix2 r k)) X2 X3 d 0 (by omega) + chunk (fun k => hb (ix2 r k)) X2 X3 d 512 (by omega)
      + chunk (fun k => hb (ix2 r k)) X2 X3 d 1024 (by omega) + chunk (fun k => hb (ix2 r k)) X2 X3 d 1536 (by omega) := by
  simp only [pay6_apply, chunk]
  have e2 : ∀ (o : ℕ) (ho : ∀ a, (![0, o] : Fin 2 → ℕ) a + (![2048, 512] : Fin 2 → ℕ) a ≤ S2048x2048.size a) (k : Fin 2048) (j : Fin 512) (h : o + j.val < 2048),
      View.ld X2 (Rect.unit (s := S2048x2048) ![0, o] ![2048, 512] ho) (ix2 k j) = X2 (ix2 k ⟨o + j.val, h⟩) := fun o ho k j h =>
    View.ld_unit_apply_of _ _ _ _ _ _ fun a => by
      match a with
      | ⟨0, _⟩ => exact (Nat.zero_add _).symm
      | ⟨1, _⟩ => rfl
  have e3 : ∀ (o : ℕ) (ho : ∀ a, (![o, 0] : Fin 2 → ℕ) a + (![512, 2048] : Fin 2 → ℕ) a ≤ S2048x2048.size a) (k : Fin 2048) (j : Fin 512) (h : o + j.val < 2048),
      View.ld X3 (Rect.unit (s := S2048x2048) ![o, 0] ![512, 2048] ho) (ix2 j k) = X3 (ix2 ⟨o + j.val, h⟩ k) := fun o ho k j h =>
    View.ld_unit_apply_of _ _ _ _ _ _ fun a => by
      match a with
      | ⟨0, _⟩ => rfl
      | ⟨1, _⟩ => exact (Nat.zero_add _).symm
  refine congrArg₂ _ (congrArg₂ _ (congrArg₂ _ (congrArg₂ _ rfl ?_) ?_) ?_) ?_ <;>
    exact Finset.sum_congr rfl fun j _ => congrArg₂ _ (congrArg _ (funext fun k => e2 _ _ _ _ (by omega))) (e3 _ _ _ _ (by omega))

theorem out_B (hc : ¬cond0_0 i) (xo : Vec Ideal S512x2048 .f32) (xs : Vec Ideal S512x2048 .bf16) (r : Fin 512) (d : Fin 2048) :
    out0_B_4 c i a2 h2 a3 h3 a4 h4 a5 h5 a6 h6 a7 h7 hc x0 x1 x2 x3 xo xs (ix2 r d)
      = xo (ix2 r d) + chunk (fun k => xs (ix2 r k)) x2 x3 d 0 (by omega) + chunk (fun k => xs (ix2 r k)) x2 x3 d 512 (by omega)
      + chunk (fun k => xs (ix2 r k)) x2 x3 d 1024 (by omega) + chunk (fun k => xs (ix2 r k)) x2 x3 d 1536 (by omega) := by
  unfold out0_B_4
  rw [View.read_writes_eq_canon _ _ _ (cover0_B_4 c i a2 h2 a3 h3 a4 h4 a5 h5 a6 h6 a7 h7 hc x0 x1 x2 x3 xo xs)]
  unfold kernelRun0_B
  dsimp only
  sl_unfold_words
  rw [View.canon_cons_unit_zero (S := S512x2048) hz]
  simp only [readCov_whole (S := S512x2048) hz, View.canon_cons_unit_zero (S := S512x2048) hz, pay7_eq, pay1_eq, pay2_eq,
    View.readAt_eq_ld, h7.read_unread, h6.read_unread, h5.read_unread, h4.read_unread, View.ld_unit_zero (S := S512x2048) hz]
  exact four ..

/-- The 512 rows of the block `x`, each normalised under the gain `g`. -/
def rowsOf (x : Vec Ideal S512x2048 .f32) (g : Vec Ideal S1x2048 .f32) : Vec Ideal S512x2048 .bf16 :=
  fun y => norm (fun l => x (ix2 (y 0) l)) (fun l => g (ix2 0 l)) (y 1)

theorem ld_lo (x : Vec Ideal S512x2048 .f32) (r : Fin 256) (k : Fin 2048) :
    View.ld x (Rect.unit (s := S512x2048) ![0, 0] ![256, 2048] inb_S512x2048_S256x2048_0_0) (ix2 r k) = x (ix2 ⟨r.val, by omega⟩ k) :=
  View.ld_unit_apply_of _ _ _ _ _ _ fun a => by
    match a with
    | ⟨0, _⟩ => exact (Nat.zero_add _).symm
    | ⟨1, _⟩ => exact (Nat.zero_add _).symm

theorem ld_hi (x : Vec Ideal S512x2048 .f32) (r : Fin 256) (k : Fin 2048) :
    View.ld x (Rect.unit (s := S512x2048) ![256, 0] ![256, 2048] inb_S512x2048_S256x2048_256_0) (ix2 r k) = x (ix2 ⟨256 + r.val, by omega⟩ k) :=
  View.ld_unit_apply_of _ _ _ _ _ _ fun a => by
    match a with
    | ⟨0, _⟩ => rfl
    | ⟨1, _⟩ => exact (Nat.zero_add _).symm

theorem rows_A : View.canon [(⟨Rect.unit ![256, 0] ![256, 2048] inb_S512x2048_S256x2048_256_0,
        k0_pay5 (k0_pay4 (View.ld x0 (Rect.unit (s := S512x2048) ![256, 0] ![256, 2048] inb_S512x2048_S256x2048_256_0)) x1)⟩   : View.Piece (Elt Ideal) S512x2048 .bf16),
      ⟨Rect.unit ![0, 0] ![256, 2048] inb_S512x2048_S256x2048_0_0,
        k0_pay3 (View.ld x0 (Rect.unit (s := S512x2048) ![0, 0] ![256, 2048] inb_S512x2048_S256x2048_0_0)) x1⟩] = rowsOf x0 x1 :=
  halves _ _ _ (fun r k => by rw [pay54_apply]; unfold rowsOf; exact congrArg₂ (fun u v => norm u v k) (funext fun l => ld_hi x0 r l) rfl) (fun r k => by rw [pay3_apply]; unfold rowsOf; exact congrArg₂ (fun u v => norm u v k) (funext fun l => ld_lo x0 r l) rfl)

theorem copy_A : View.canon [(⟨Rect.unit ![256, 0] ![256, 2048] inb_S512x2048_S256x2048_256_0,
        View.ld x0 (Rect.unit (s := S512x2048) ![256, 0] ![256, 2048] inb_S512x2048_S256x2048_256_0)⟩   : View.Piece (Elt Ideal) S512x2048 .f32),
      ⟨Rect.unit ![0, 0] ![256, 2048] inb_S512x2048_S256x2048_0_0,
        View.ld x0 (Rect.unit (s := S512x2048) ![0, 0] ![256, 2048] inb_S512x2048_S256x2048_0_0)⟩] = x0 :=
  halves _ _ _ (fun r k => ld_hi x0 r k) (fun r k => ld_lo x0 r k)

theorem sout_A (hc : cond0_0 i) :
    sout0_A_0 c i a2 h2 a3 h3 a4 h4 a5 h5 a6 h6 a7 h7 hc x0 x1 x2 x3 = rowsOf x0 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  simp only [View.readAt_eq_ld, h2.read_unread, h3.read_unread, View.ld_unit_zero (S := S1x2048) hz]
  exact rows_A x0 x1

theorem out_A (hc : cond0_0 i) (r : Fin 512) (d : Fin 2048) :
    out0_A_4 c i a2 h2 a3 h3 a4 h4 a5 h5 a6 h6 a7 h7 hc x0 x1 x2 x3 (ix2 r d)
      = x0 (ix2 r d) + chunk (fun k => rowsOf x0 x1 (ix2 r k)) x2 x3 d 0 (by omega) + chunk (fun k => rowsOf x0 x1 (ix2 r k)) x2 x3 d 512 (by omega)
      + chunk (fun k => rowsOf x0 x1 (ix2 r k)) x2 x3 d 1024 (by omega) + chunk (fun k => rowsOf x0 x1 (ix2 r k)) x2 x3 d 1536 (by omega) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_cons_unit_zero (S := S512x2048) hz]
  simp only [readCov_whole (S := S512x2048) hz, View.canon_cons_unit_zero (S := S512x2048) hz, pay7_eq, pay1_eq, pay2_eq,
    View.readAt_eq_ld, h7.read_unread, h6.read_unread, h5.read_unread, h4.read_unread, h2.read_unread, h3.read_unread,
    View.ld_unit_zero (S := S512x2048) hz, View.ld_unit_zero (S := S1x2048) hz, rows_A, copy_A]
  exact four ..

end Cert.Ffn

end
-- ==== Proof.Ffn.lean ====
/- The feed-forward call as a whole: the four grid points of a block of rows add the 8192 hidden units to the residual,
   2048 at a time, and the array they leave is the reference's. -/
module

public import proofs.«01_k».proof.Proof.FfnBody
public import proofs.«01_k».proof.Proof.Gen.Reference2Ideal.Run

@[expose] public section

set_option maxRecDepth 16384

noncomputable section

namespace Cert.Ffn

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ) (c : Dev nD)

abbrev X : S16384x2048.Idx → EReal := m ((c : Thread nD τ).loc main_arg0)
abbrev G : S2048.Idx → EReal := m ((c : Thread nD τ).loc main_arg1)
abbrev W1 : S2048x8192.Idx → EReal := m ((c : Thread nD τ).loc main_arg2)
abbrev W2 : S8192x2048.Idx → EReal := m ((c : Thread nD τ).loc main_arg3)

/-- What hidden unit `j` adds to entry `d` of row `r`. -/
def term (x : S16384x2048.Idx → EReal) (g : S2048.Idx → EReal) (w1 : S2048x8192.Idx → EReal) (w2 : S8192x2048.Idx → EReal)
    (r : Fin 16384) (d : Fin 2048) (j : Fin 8192) : EReal :=
  unit (norm (fun l => x (ix2 r l)) (fun l => g (ix1 l))) (fun k => w1 (ix2 k j)) * w2 (ix2 j d)

/-- The same at any number, nothing past the last unit. -/
def termN (x : S16384x2048.Idx → EReal) (g : S2048.Idx → EReal) (w1 : S2048x8192.Idx → EReal) (w2 : S8192x2048.Idx → EReal)
    (r : Fin 16384) (d : Fin 2048) (j : ℕ) : EReal :=
  if h : j < 8192 then term x g w1 w2 r d ⟨j, h⟩ else 0

theorem idx : ∀ t : Fin cfg0.N, win0_0.index t 0 = t.val / 4 ∧ win0_0.index t 1 = 0 ∧ win0_1.index t 0 = 0 ∧ win0_1.index t 1 = 0
    ∧ win0_2.index t 0 = 0 ∧ win0_2.index t 1 = t.val % 4 ∧ win0_3.index t 0 = t.val % 4 ∧ win0_3.index t 1 = 0 := by
  decide +kernel

theorem blk0 (t : Fin cfg0.N) (r : Fin 512) (k : Fin 2048) (h : t.val / 4 * 512 + r.val < 16384) :
    (iblk m c 0 t : Vec Ideal S512x2048 .f32) (ix2 r k) = X m c (ix2 ⟨t.val / 4 * 512 + r.val, h⟩ k) := by
  blk_ext [iblk, V, idx t]

theorem blk1 (t : Fin cfg0.N) (k : Fin 2048) :
    (iblk m c 1 t : Vec Ideal S1x2048 .f32) (ix2 0 k) = G m c (ix1 k) := by
  blk_ext! [iblk, V, idx t]

theorem blk2 (t : Fin cfg0.N) (k j : Fin 2048) (h : t.val % 4 * 2048 + j.val < 8192) :
    (iblk m c 2 t : Vec Ideal S2048x2048 .bf16) (ix2 k j) = W1 m c (ix2 k ⟨t.val % 4 * 2048 + j.val, h⟩) := by
  blk_ext [iblk, V, idx t]

theorem blk3 (t : Fin cfg0.N) (k j : Fin 2048) (h : t.val % 4 * 2048 + j.val < 8192) :
    (iblk m c 3 t : Vec Ideal S2048x2048 .bf16) (ix2 j k) = W2 m c (ix2 ⟨t.val % 4 * 2048 + j.val, h⟩ k) := by
  blk_ext [iblk, V, idx t]

/-- The normalised rows of the block of point `t`. -/
theorem rows_eq (t : Fin cfg0.N) (r : Fin 512) (h : t.val / 4 * 512 + r.val < 16384) :
    (fun k => rowsOf (iblk m c 0 t) (iblk m c 1 t) (ix2 r k))
      = norm (fun l => X m c (ix2 ⟨t.val / 4 * 512 + r.val, h⟩ l)) (fun l => G m c (ix1 l)) := by
  funext k
  exact congrArg₂ (fun u v => norm u v k) (funext fun l => blk0 m c t r l h) (funext fun l => blk1 m c t l)

theorem chunk_eq (t : Fin cfg0.N) (r : Fin 512) (d : Fin 2048) (h : t.val / 4 * 512 + r.val < 16384) (o : ℕ) (ho : o + 512 ≤ 2048) :
    chunk (norm (fun l => X m c (ix2 ⟨t.val / 4 * 512 + r.val, h⟩ l)) (fun l => G m c (ix1 l))) (iblk m c 2 t) (iblk m c 3 t) d o ho
      = ∑ j ∈ Finset.range 512, termN (X m c) (G m c) (W1 m c) (W2 m c) ⟨t.val / 4 * 512 + r.val, h⟩ d (t.val % 4 * 2048 + o + j) := by
  rw [Finset.sum_range]
  refine Finset.sum_congr rfl fun j _ => ?_
  have hj : t.val % 4 * 2048 + (o + j.val) < 8192 := by have := j.isLt; omega
  rw [termN, dif_pos (by omega), term]
  refine congrArg₂ _ (congrArg _ (funext fun k => ?_)) ?_
  · exact (blk2 m c t k _ hj).trans (congrArg _ (same fun a => by match a with | ⟨0, _⟩ => rfl | ⟨1, _⟩ => exact (Nat.add_assoc _ _ _).symm))
  · exact (blk3 m c t d _ hj).trans (congrArg _ (same fun a => by match a with | ⟨0, _⟩ => exact (Nat.add_assoc _ _ _).symm | ⟨1, _⟩ => rfl))

/-- What the output block holds after `k` hidden units. -/
def after (t : Fin cfg0.N) (k : ℕ) : Vec Ideal S512x2048 .f32 := fun y =>
  have h : t.val / 4 * 512 + (y 0).val < 16384 := by
    have := lt_of_lt_of_eq t.isLt N_0; have : (y 0).val < 512 := (y 0).isLt; omega
  X m c (ix2 ⟨t.val / 4 * 512 + (y 0).val, h⟩ (y 1))
    + ∑ j ∈ Finset.range k, termN (X m c) (G m c) (W1 m c) (W2 m c) ⟨t.val / 4 * 512 + (y 0).val, h⟩ (y 1) j

theorem out_point (t : Fin cfg0.N) (r : Fin 512) (d : Fin 2048) (h : Fin 2048 → EReal)
    (hh : h = fun k => rowsOf (iblk m c 0 t) (iblk m c 1 t) (ix2 r k)) :
    after m c t (t.val % 4 * 2048) (ix2 r d) + chunk h (iblk m c 2 t) (iblk m c 3 t) d 0 (by omega) + chunk h (iblk m c 2 t) (iblk m c 3 t) d 512 (by omega)
      + chunk h (iblk m c 2 t) (iblk m c 3 t) d 1024 (by omega) + chunk h (iblk m c 2 t) (iblk m c 3 t) d 1536 (by omega)
    = after m c t (t.val % 4 * 2048 + 2048) (ix2 r d) := by
  have hr : t.val / 4 * 512 + r.val < 16384 := by
    have := lt_of_lt_of_eq t.isLt N_0; omega
  rw [hh, rows_eq m c t r hr]
  simp only [chunk_eq]
  unfold after
  dsimp only
  rw [show t.val % 4 * 2048 + 2048 = t.val % 4 * 2048 + 512 + 512 + 512 + 512 from by omega]
  simp only [Finset.sum_range_add, ← add_assoc, Nat.add_zero]
  rw [show t.val % 4 * 2048 + 512 + 512 = t.val % 4 * 2048 + 1024 from by omega, show t.val % 4 * 2048 + 1024 + 512 = t.val % 4 * 2048 + 1536 from by omega]
  rfl

theorem after_zero (t : Fin cfg0.N) (r : Fin 512) (d : Fin 2048) :
    after m c t 0 (ix2 r d) = (iblk m c 0 t : Vec Ideal S512x2048 .f32) (ix2 r d) := by
  have hr : t.val / 4 * 512 + r.val < 16384 := by
    have := lt_of_lt_of_eq t.isLt N_0; omega
  rw [blk0 m c t r d hr]
  unfold after
  exact add_zero _

theorem idx2 {n0 n1 : ℕ} (y : (⟨2, ![n0, n1]⟩ : Shape).Idx) : ∃ (r : Fin n0) (d : Fin n1), y = ix2 r d :=
  ⟨y 0, y 1, same fun a => by fin_cases a <;> rfl⟩

/-- A point that starts a block of rows. -/
theorem outs_A (t : Fin cfg0.N) (h0 : t.val % 4 = 0) :
    outsAt0 m c t.val t.isLt = (after m c t (t.val % 4 * 2048 + 2048), rowsOf (iblk m c 0 t) (iblk m c 1 t)) := by
  refine (outsAt0_A m c t h0).trans (congrArg₂ Prod.mk (funext fun y => ?_) (sout_A ..))
  obtain ⟨r, d, rfl⟩ := idx2 y
  refine (out_A ..).trans ?_
  rw [← out_point m c t r d _ rfl, h0, Nat.zero_mul, after_zero]

/-- A point that goes on with the block `s` of the point before. -/
theorem outs_B (t s : Fin cfg0.N) (h0 : ¬t.val % 4 = 0) (hs : s.val = t.val - 1)
    (e : outsAt0 m c s.val s.isLt = (after m c s (s.val % 4 * 2048 + 2048), rowsOf (iblk m c 0 s) (iblk m c 1 s))) :
    outsAt0 m c t.val t.isLt = (after m c t (t.val % 4 * 2048 + 2048), rowsOf (iblk m c 0 t) (iblk m c 1 t)) := by
  have hq : s.val / 4 = t.val / 4 := by omega
  have hr : t.val % 4 = s.val % 4 + 1 := by omega
  have hN : t.val < 128 := lt_of_lt_of_eq t.isLt N_0
  have e0 : (iblk m c 0 s : Vec Ideal S512x2048 .f32) = iblk m c 0 t := by
    funext y
    obtain ⟨r, d, rfl⟩ := idx2 y
    rw [blk0 m c s r d (by omega), blk0 m c t r d (by omega)]
    exact congrArg _ (same fun a => by
      match a with
      | ⟨0, _⟩ => exact congrArg (fun q => q * 512 + r.val) hq
      | ⟨1, _⟩ => rfl)
  have e1 : (iblk m c 1 s : Vec Ideal S1x2048 .f32) = iblk m c 1 t := by
    funext y
    obtain ⟨r, d, rfl⟩ := idx2 y
    obtain rfl : r = 0 := Subsingleton.elim _ _
    rw [blk1, blk1]
  have ea : after m c s (s.val % 4 * 2048 + 2048) = after m c t (t.val % 4 * 2048) := by
    rw [show t.val % 4 * 2048 = s.val % 4 * 2048 + 2048 from by omega]
    unfold after
    simp only [hq]
  rw [e0, e1, ea] at e
  have e' : outsAt0 m c (t.val - 1) (Nat.lt_of_le_of_lt (Nat.sub_le _ _) t.isLt)
      = (after m c t (t.val % 4 * 2048), rowsOf (iblk m c 0 t) (iblk m c 1 t)) := by
    rw [← e]; simp only [hs]
  refine (outsAt0_B m c t h0).trans ?_
  rw [e']
  refine congrArg₂ Prod.mk (funext fun y => ?_) rfl
  obtain ⟨r, d, rfl⟩ := idx2 y
  exact (out_B ..).trans (out_point m c t r d _ rfl)

/-- After point `n`, the output block holds the residual and the hidden units up to that point; the scratch holds the
    block's normalised rows. -/
theorem outs_eq : ∀ (n : ℕ) (t : Fin cfg0.N), t.val = n →
    outsAt0 m c t.val t.isLt = (after m c t (t.val % 4 * 2048 + 2048), rowsOf (iblk m c 0 t) (iblk m c 1 t))
  | 0, t, h => outs_A m c t (by omega)
  | n + 1, t, h => by
    by_cases h0 : t.val % 4 = 0
    · exact outs_A m c t h0
    · exact outs_B m c t ⟨n, by have := t.isLt; omega⟩ h0 (by show n = _; omega) (outs_eq n _ rfl)

/-- The result, entry by entry. -/
def spec (x : S16384x2048.Idx → EReal) (g : S2048.Idx → EReal) (w1 : S2048x8192.Idx → EReal) (w2 : S8192x2048.Idx → EReal) :
    S16384x2048.Idx → EReal := fun i =>
  x i + ∑ j : Fin 8192, term x g w1 w2 (i 0) (i 1) j

/-- The residual and all the hidden units, whatever way the row and the column are written. -/
theorem spec_of (x : S16384x2048.Idx → EReal) (g : S2048.Idx → EReal) (w1 : S2048x8192.Idx → EReal) (w2 : S8192x2048.Idx → EReal)
    (i : S16384x2048.Idx) (r : Fin 16384) (d : Fin 2048) (hr : r.val = (i 0).val) (hd : d.val = (i 1).val) (k : ℕ) (hk : k = 8192) :
    x (ix2 r d) + ∑ j ∈ Finset.range k, termN x g w1 w2 r d j = spec x g w1 w2 i := by
  subst hk
  obtain rfl : i = ix2 r d := same fun a => by
    match a with
    | ⟨0, _⟩ => exact hr.symm
    | ⟨1, _⟩ => exact hd.symm
  rw [Finset.sum_range]
  exact congrArg _ (Finset.sum_congr rfl fun j _ => by rw [termN, dif_pos j.isLt]; rfl)

/-- What the kernel's array ends holding. -/
theorem final : G4 m c = spec (X m c) (G m c) (W1 m c) (W2 m c) := by
  funext i
  have h0 : (i 0).val < 16384 := (i 0).isLt
  have h1 : (i 1).val < 2048 := (i 1).isLt
  have hp : pt4Of i = 4 * ((i 0).val / 512) + 3 := by unfold pt4Of run4Of; omega
  have hlt : pt4Of i < cfg0.N := by exact lt_of_lt_of_eq (by omega) N_0.symm
  unfold G4
  rw [dif_pos hlt, ← outsAt0_sweep m c (pt4Of i) hlt, outs_eq m c _ ⟨pt4Of i, hlt⟩ rfl]
  refine spec_of _ _ _ _ i _ _ ?_ ?_ _ ?_
  · show pt4Of i / 4 * 512 + (i 0).val % 512 = (i 0).val
    omega
  · show (i 1).val % 2048 = (i 1).val
    omega
  · show pt4Of i % 4 * 2048 + 2048 = 8192
    omega

end Cert.Ffn

/-! The reference: the same numbers, from its own operations. -/

namespace Cert.FfnRef

open Cert.Reference2Ideal Cert.Reference2Ideal.Gen Idealize.ShloMosaic Idealize.ShloMosaic.TcCoe Idealize.SL.Sem

theorem final (x : FVec Ideal S16384x2048 .f32) (g : FVec Ideal S2048 .f32) (w1 : FVec Ideal S2048x8192 .bf16) (w2 : FVec Ideal S8192x2048 .bf16) :
    addf x (Host.dotGeneral dot_S16384x8192_S8192x2048_S16384x2048_1_0_0_1_n_n none (mulf (maximumf (Host.dotGeneral dot_S16384x2048_S2048x8192_S16384x8192_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) (extf .f32 w1 bitsLt_bf16_f32)) (broadcastInDim S16384x8192 ![] bcast_S_S16384x8192 (constant S_ .f32 0x00000000#32))) (maximumf (Host.dotGeneral dot_S16384x2048_S2048x8192_S16384x8192_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) (extf .f32 w1 bitsLt_bf16_f32)) (broadcastInDim S16384x8192 ![] bcast_S_S16384x8192 (constant S_ .f32 0x00000000#32)))) (extf .f32 w2 bitsLt_bf16_f32))
      = Ffn.spec x g w1 w2 := by
  funext i
  obtain ⟨r, d, rfl⟩ := Ffn.idx2 i
  unfold Ffn.spec Ffn.term Ffn.unit Ffn.norm
  pointwise

end Cert.FfnRef

end
-- ==== Proof.FfnRun.lean ====
module

public import proofs.«01_k».proof.Defs
public import proofs.«01_k».proof.Proof.Ffn
public import proofs.«01_k».proof.Proof.Gen.Kernel2Ideal.Value
public import proofs.«01_k».proof.Proof.Gen.Reference2Ideal.Run

@[expose] public section

noncomputable section

namespace Cert.Proof

open Idealize.ShloMosaic Idealize.SL.Sem

/-- The reference keeps its arguments and leaves every counter at zero. -/
theorem frameRef2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward network and its reference leave the same rows. -/
theorem algebraic2 : Cert.algebraic_Kernel2Ideal_Reference2Ideal
    (hKernel2Ideal := Cert.Kernel2Ideal.Gen.facts) (hReference2Ideal := Cert.Reference2Ideal.Gen.facts) := by
  intro m ρ m' ρ' _ hag
  refine ⟨fun c => Cert.Ffn.spec (Cert.Ffn.X m c) (Cert.Ffn.G m c) (Cert.Ffn.W1 m c) (Cert.Ffn.W2 m c), ?_, ?_⟩
  · exact (θ_run _ _ _).mono (fun r h c => ⟨(h c).1.trans (Cert.Ffn.final m c), (h c).2⟩) (Cert.Kernel2Ideal.Value.run m ρ)
  · refine (θ_run _ _ _).mono (fun r h c => ⟨(h c).1.trans ((Cert.FfnRef.final _ _ _ _).trans ?_), (h c).2⟩) (Cert.Reference2Ideal.Value.run (F := Ideal) m' ρ')
    obtain ⟨h0, h1, h2, h3⟩ := hag c
    unfold Cert.Ffn.X Cert.Ffn.G Cert.Ffn.W1 Cert.Ffn.W2
    exact congr (congr (congr (congrArg Cert.Ffn.spec h0) h1) h2) h3

end Cert.Proof

end
-- ==== Proof.QkvBody.lean ====
/- The projections of the attention group, one grid point: the block of 512 rows each output window is left with, read entry
   by entry over the extended reals. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Qkv

open Cert.Kernel3Ideal Cert.Kernel3Ideal.Gen Idealize.ShloMosaic Idealize.ShloMosaic.TcCoe Idealize.SL.Sem

/-- One entry of a head's vector `x` of 128 numbers, normalised, under the gain `g`. -/
def norm (x g : Fin 128 → EReal) (k : Fin 128) : EReal :=
  x k * Ideal.rsqrt (Ideal.div (∑ l : Fin 128, x l * x l) (Ideal.ofBits .f32 0x43000000#32)
    + Ideal.ofBits .f32 0x358637BD#32) * g k

theorem hz : (![0, 0] : Fin 2 → Nat) = fun _ => 0 := funext fun a => by fin_cases a <;> rfl

/-- Two indices are one when their coordinates are. -/
theorem same {S : Shape} {x y : S.Idx} (h : ∀ a, (x a).val = (y a).val) : x = y := funext fun a => Fin.ext (h a)

/-- The projection of 512 rows by `w`, head by head normalised under the gain `g`. -/
def heads (x : Vec Ideal S512x2048 .bf16) (w : Vec Ideal S2048x1024 .bf16) (g : Fin 128 → EReal) : S512x1024.Idx → EReal := fun y =>
  have h : (y 1).val < 1024 := (y 1).isLt
  norm (fun l => ∑ k : Fin 2048, x (ix2 (y 0) k) * w (ix2 k ⟨(y 1).val / 128 * 128 + l.val, by omega⟩)) g ⟨(y 1).val % 128, by omega⟩

theorem piece (x : Vec Ideal S512x2048 .bf16) (w : Vec Ideal S2048x1024 .bf16) (g : Fin 128 → EReal) (ro co : ℕ)
    (inb : ∀ a, (![ro, co] : Fin 2 → ℕ) a + S256x128.size a ≤ S512x1024.size a) (P : S256x128.Idx → EReal) (f : Fin 256 → Fin 512)
    (hc : co % 128 = 0) (hh : co + 128 ≤ 1024) (hf : ∀ r, (f r).val = ro + r.val)
    (hP : ∀ (r : Fin 256) (d : Fin 128), P (ix2 r d) = norm (fun l => ∑ k : Fin 2048, x (ix2 (f r) k) * w (ix2 k ⟨co + l.val, by omega⟩)) g d)
    (y : S256x128.Idx) : P y = heads x w g ((Rect.unit (s := S512x1024) ![ro, co] S256x128.size inb).emb y) := by
  have h1 : (y 1).val < 128 := (y 1).isLt
  have e0 : (((Rect.unit (s := S512x1024) ![ro, co] S256x128.size inb).emb y) 0).val = ro + (y 0).val := Rect.idx_unit_val (s := S512x1024) ![ro, co] S256x128.size inb y 0
  have e1 : (((Rect.unit (s := S512x1024) ![ro, co] S256x128.size inb).emb y) 1).val = co + (y 1).val := Rect.idx_unit_val (s := S512x1024) ![ro, co] S256x128.size inb y 1
  refine (show P y = P (ix2 (y 0) (y 1)) from congrArg P (same fun b => by fin_cases b <;> rfl)).trans ((hP _ _).trans ?_)
  unfold heads
  generalize (Rect.unit (s := S512x1024) ![ro, co] S256x128.size inb).emb y = z at e0 e1
  refine congr (congrArg₂ norm (funext fun l => Finset.sum_congr rfl fun k _ => congrArg₂ _ (congrArg _ (same fun a => ?_)) (congrArg _ (same fun a => ?_))) rfl) (Fin.ext ?_)
  · match a with
    | ⟨0, _⟩ => exact (hf _).trans e0.symm
    | ⟨1, _⟩ => rfl
  · match a with
    | ⟨0, _⟩ => rfl
    | ⟨1, _⟩ => show co + l.val = (z 1).val / 128 * 128 + l.val; omega
  · show (y 1).val = (z 1).val % 128
    omega

/-- Row `r` of the upper and of the lower half. -/
def lo (r : Fin 256) : Fin 512 := ⟨r.val, by omega⟩
def hi (r : Fin 256) : Fin 512 := ⟨256 + r.val, by omega⟩

variable (x0 : Vec Ideal S512x2048 .bf16) (x1 x2 x3 : Vec Ideal S2048x1024 .bf16) (x4 x5 : Vec Ideal S1x128 .f32)
  (x6 : Vec Ideal S64x8192 .f32) (x7 : Vec Ideal S256x2048 .f32)

/-- The gain of the queries as the body scales it. -/
def qgain (l : Fin 128) : EReal := x4 (ix2 0 l) * Idealize.ShloMosaic.named κ "scale_log2e" 0x3E0293EE#32

theorem out8 : out0_8 x0 x1 x2 x3 x4 x5 x6 x7 = heads x0 x1 (qgain x4) := by
  funext y
  unfold out0_8
  refine View.canon_apply_of_pieces _ _ ?_ y (cover0_8 ..)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
  · refine piece x0 x1 (qgain x4) 256 896 inb_S512x1024_S256x128_256_896 _ hi rfl (by decide) (fun r => rfl) fun r d => ?_
    unfold norm hi qgain named k0_pay41 k0_pay55 k0_pay40 k0_pay59 k0_pay4 k0_pay32
    pointwise
  · refine piece x0 x1 (qgain x4) 256 768 inb_S512x1024_S256x128_256_768 _ hi rfl (by decide) (fun r => rfl) fun r d => ?_
    unfold norm hi qgain named k0_pay39 k0_pay55 k0_pay59 k0_pay4 k0_pay32
    pointwise
  · refine piece x0 x1 (qgain x4) 256 640 inb_S512x1024_S256x128_256_640 _ hi rfl (by decide) (fun r => rfl) fun r d => ?_
    unfold norm hi qgain named k0_pay38 k0_pay55 k0_pay59 k0_pay4 k0_pay32
    pointwise
  · refine piece x0 x1 (qgain x4) 256 512 inb_S512x1024_S256x128_256_512 _ hi rfl (by decide) (fun r => rfl) fun r d => ?_
    unfold norm hi qgain named k0_pay37 k0_pay55 k0_pay59 k0_pay4 k0_pay32
    pointwise
  · refine piece x0 x1 (qgain x4) 256 384 inb_S512x1024_S256x128_256_384 _ hi rfl (by decide) (fun r => rfl) fun r d => ?_
    unfold norm hi qgain named k0_pay36 k0_pay55 k0_pay59 k0_pay4 k0_pay32
    pointwise
  · refine piece x0 x1 (qgain x4) 256 256 inb_S512x1024_S256x128_256_256 _ hi rfl (by decide) (fun r => rfl) fun r d => ?_
    unfold norm hi qgain named k0_pay35 k0_pay55 k0_pay59 k0_pay4 k0_pay32
    pointwise
  · refine piece x0 x1 (qgain x4) 256 128 inb_S512x1024_S256x128_256_128 _ hi rfl (by decide) (fun r => rfl) fun r d => ?_
    unfold norm hi qgain named k0_pay34 k0_pay55 k0_pay32 k0_pay4
    pointwise
  · refine piece x0 x1 (qgain x4) 256 0 inb_S512x1024_S256x128_256_0 _ hi rfl (by decide) (fun r => rfl) fun r d => ?_
    unfold norm hi qgain named k0_pay33 k0_pay55 k0_pay32 k0_pay4
    pointwise
  · refine piece x0 x1 (qgain x4) 0 896 inb_S512x1024_S256x128_0_896 _ lo rfl (by decide) (fun r => (Nat.zero_add _).symm) fun r d => ?_
    unfold norm lo qgain named k0_pay17 k0_pay55 k0_pay16 k0_pay57 k0_pay4 k0_pay15 k0_pay6
    pointwise
  · refine piece x0 x1 (qgain x4) 0 768 inb_S512x1024_S256x128_0_768 _ lo rfl (by decide) (fun r => (Nat.zero_add _).symm) fun r d => ?_
    unfold norm lo qgain named k0_pay14 k0_pay55 k0_pay57 k0_pay4 k0_pay6
    pointwise
  · refine piece x0 x1 (qgain x4) 0 640 inb_S512x1024_S256x128_0_640 _ lo rfl (by decide) (fun r => (Nat.zero_add _).symm) fun r d => ?_
    unfold norm lo qgain named k0_pay13 k0_pay55 k0_pay57 k0_pay4 k0_pay6
    pointwise
  · refine piece x0 x1 (qgain x4) 0 512 inb_S512x1024_S256x128_0_512 _ lo rfl (by decide) (fun r => (Nat.zero_add _).symm) fun r d => ?_
    unfold norm lo qgain named k0_pay12 k0_pay11 k0_pay55 k0_pay57 k0_pay4 k0_pay6
    pointwise
  · refine piece x0 x1 (qgain x4) 0 384 inb_S512x1024_S256x128_0_384 _ lo rfl (by decide) (fun r => (Nat.zero_add _).symm) fun r d => ?_
    unfold norm lo qgain named k0_pay10 k0_pay55 k0_pay57 k0_pay4 k0_pay6
    pointwise
  · refine piece x0 x1 (qgain x4) 0 256 inb_S512x1024_S256x128_0_256 _ lo rfl (by decide) (fun r => (Nat.zero_add _).symm) fun r d => ?_
    unfold norm lo qgain named k0_pay9 k0_pay55 k0_pay57 k0_pay4 k0_pay6
    pointwise
  · refine piece x0 x1 (qgain x4) 0 128 inb_S512x1024_S256x128_0_128 _ lo rfl (by decide) (fun r => (Nat.zero_add _).symm) fun r d => ?_
    unfold norm lo qgain named k0_pay8 k0_pay6 k0_pay4
    pointwise
  · refine piece x0 x1 (qgain x4) 0 0 inb_S512x1024_S256x128_0_0 _ lo rfl (by decide) (fun r => (Nat.zero_add _).symm) fun r d => ?_
    unfold norm lo qgain named k0_pay7 k0_pay6 k0_pay4
    pointwise

theorem out9 : out0_9 x0 x1 x2 x3 x4 x5 x6 x7 = heads x0 x2 (fun l => x5 (ix2 0 l)) := by
  funext y
  unfold out0_9
  refine View.canon_apply_of_pieces _ _ ?_ y (cover0_9 ..)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
  · refine piece x0 x2 (fun l => x5 (ix2 0 l)) 256 896 inb_S512x1024_S256x128_256_896 _ hi rfl (by decide) (fun r => rfl) fun r d => ?_
    unfold norm hi k0_pay54 k0_pay56 k0_pay60 k0_pay5 k0_pay42
    pointwise
  · refine piece x0 x2 (fun l => x5 (ix2 0 l)) 256 768 inb_S512x1024_S256x128_256_768 _ hi rfl (by decide) (fun r => rfl) fun r d => ?_
    unfold norm hi k0_pay53 k0_pay56 k0_pay60 k0_pay5 k0_pay42
    pointwise
  · refine piece x0 x2 (fun l => x5 (ix2 0 l)) 256 640 inb_S512x1024_S256x128_256_640 _ hi rfl (by decide) (fun r => rfl) fun r d => ?_
    unfold norm hi k0_pay52 k0_pay56 k0_pay51 k0_pay60 k0_pay5 k0_pay50 k0_pay42
    pointwise
  · refine piece x0 x2 (fun l => x5 (ix2 0 l)) 256 512 inb_S512x1024_S256x128_256_512 _ hi rfl (by decide) (fun r => rfl) fun r d => ?_
    unfold norm hi k0_pay49 k0_pay56 k0_pay60 k0_pay5 k0_pay42
    pointwise
  · refine piece x0 x2 (fun l => x5 (ix2 0 l)) 256 384 inb_S512x1024_S256x128_256_384 _ hi rfl (by decide) (fun r => rfl) fun r d => ?_
    unfold norm hi k0_pay48 k0_pay56 k0_pay60 k0_pay5 k0_pay42
    pointwise
  · refine piece x0 x2 (fun l => x5 (ix2 0 l)) 256 256 inb_S512x1024_S256x128_256_256 _ hi rfl (by decide) (fun r => rfl) fun r d => ?_
    unfold norm hi k0_pay47 k0_pay56 k0_pay46 k0_pay5 k0_pay45 k0_pay42
    pointwise
  · refine piece x0 x2 (fun l => x5 (ix2 0 l)) 256 128 inb_S512x1024_S256x128_256_128 _ hi rfl (by decide) (fun r => rfl) fun r d => ?_
    unfold norm hi k0_pay44 k0_pay56 k0_pay42 k0_pay5
    pointwise
  · refine piece x0 x2 (fun l => x5 (ix2 0 l)) 256 0 inb_S512x1024_S256x128_256_0 _ hi rfl (by decide) (fun r => rfl) fun r d => ?_
    unfold norm hi k0_pay43 k0_pay56 k0_pay42 k0_pay5
    pointwise
  · refine piece x0 x2 (fun l => x5 (ix2 0 l)) 0 896 inb_S512x1024_S256x128_0_896 _ lo rfl (by decide) (fun r => (Nat.zero_add _).symm) fun r d => ?_
    unfold norm lo k0_pay30 k0_pay56 k0_pay58 k0_pay5 k0_pay18
    pointwise
  · refine piece x0 x2 (fun l => x5 (ix2 0 l)) 0 768 inb_S512x1024_S256x128_0_768 _ lo rfl (by decide) (fun r => (Nat.zero_add _).symm) fun r d => ?_
    unfold norm lo k0_pay29 k0_pay56 k0_pay58 k0_pay5 k0_pay18
    pointwise
  · refine piece x0 x2 (fun l => x5 (ix2 0 l)) 0 640 inb_S512x1024_S256x128_0_640 _ lo rfl (by decide) (fun r => (Nat.zero_add _).symm) fun r d => ?_
    unfold norm lo k0_pay28 k0_pay56 k0_pay27 k0_pay58 k0_pay5 k0_pay26 k0_pay18
    pointwise
  · refine piece x0 x2 (fun l => x5 (ix2 0 l)) 0 512 inb_S512x1024_S256x128_0_512 _ lo rfl (by decide) (fun r => (Nat.zero_add _).symm) fun r d => ?_
    unfold norm lo k0_pay25 k0_pay56 k0_pay58 k0_pay5 k0_pay18
    pointwise
  · refine piece x0 x2 (fun l => x5 (ix2 0 l)) 0 384 inb_S512x1024_S256x128_0_384 _ lo rfl (by decide) (fun r => (Nat.zero_add _).symm) fun r d => ?_
    unfold norm lo k0_pay24 k0_pay56 k0_pay58 k0_pay5 k0_pay18
    pointwise
  · refine piece x0 x2 (fun l => x5 (ix2 0 l)) 0 256 inb_S512x1024_S256x128_0_256 _ lo rfl (by decide) (fun r => (Nat.zero_add _).symm) fun r d => ?_
    unfold norm lo k0_pay23 k0_pay56 k0_pay22 k0_pay5 k0_pay21 k0_pay18
    pointwise
  · refine piece x0 x2 (fun l => x5 (ix2 0 l)) 0 128 inb_S512x1024_S256x128_0_128 _ lo rfl (by decide) (fun r => (Nat.zero_add _).symm) fun r d => ?_
    unfold norm lo k0_pay20 k0_pay56 k0_pay18 k0_pay5
    pointwise
  · refine piece x0 x2 (fun l => x5 (ix2 0 l)) 0 0 inb_S512x1024_S256x128_0_0 _ lo rfl (by decide) (fun r => (Nat.zero_add _).symm) fun r d => ?_
    unfold norm lo k0_pay19 k0_pay56 k0_pay18 k0_pay5
    pointwise

/-- The projection of 512 rows by `w`. -/
def rows (x : Vec Ideal S512x2048 .bf16) (w : Vec Ideal S2048x1024 .bf16) : S512x1024.Idx → EReal := fun y =>
  ∑ k : Fin 2048, x (ix2 (y 0) k) * w (ix2 k (y 1))

theorem half (G : S512x1024.Idx → EReal) (ro : ℕ) (inb : ∀ a, (![ro, 0] : Fin 2 → ℕ) a + S256x1024.size a ≤ S512x1024.size a)
    (P : S256x1024.Idx → EReal) (f : Fin 256 → Fin 512) (hf : ∀ r, (f r).val = ro + r.val)
    (hP : ∀ (r : Fin 256) (d : Fin 1024), P (ix2 r d) = G (ix2 (f r) d)) (y : S256x1024.Idx) :
    P y = G ((Rect.unit (s := S512x1024) ![ro, 0] S256x1024.size inb).emb y) := by
  refine (show P y = P (ix2 (y 0) (y 1)) from congrArg P (same fun b => by fin_cases b <;> rfl)).trans ((hP _ _).trans (congrArg G (same fun a => ?_)))
  refine Eq.trans ?_ (Rect.idx_unit_val (s := S512x1024) ![ro, 0] S256x1024.size inb y a).symm
  match a with
  | ⟨0, _⟩ => exact hf _
  | ⟨1, _⟩ => exact (Nat.zero_add _).symm

theorem out10 : out0_10 x0 x1 x2 x3 x4 x5 x6 x7 = rows x0 x3 := by
  funext y
  unfold out0_10
  refine View.canon_apply_of_pieces _ _ ?_ y (cover0_10 ..)
  refine List.forall_mem_cons.2 ⟨?_, List.forall_mem_cons.2 ⟨?_, List.forall_mem_nil _⟩⟩
  · refine half _ 256 inb_S512x1024_S256x1024_256_0 _ hi (fun r => rfl) fun r d => ?_
    unfold rows hi k0_pay1
    pointwise
  · refine half _ 0 inb_S512x1024_S256x1024_0_0 _ lo (fun r => (Nat.zero_add _).symm) fun r d => ?_
    unfold rows lo k0_pay31
    pointwise

theorem out11 : out0_11 x0 x1 x2 x3 x4 x5 x6 x7 = x6 := by
  unfold out0_11
  rw [View.canon_cons_unit_zero (S := S64x8192) hz, View.ld_unit_zero (S := S64x8192) hz]
  rfl

theorem out12 : out0_12 x0 x1 x2 x3 x4 x5 x6 x7 = x7 := by
  unfold out0_12
  rw [View.canon_cons_unit_zero (S := S256x2048) hz, View.ld_unit_zero (S := S256x2048) hz]
  rfl

end Cert.Qkv

end
-- ==== Proof.Qkv.lean ====
/- The projections of the attention group as a whole: the arrays the 32 blocks of rows make up, and the reference's. -/
module

public import proofs.«01_k».proof.Defs
public import proofs.«01_k».proof.Proof.QkvBody
public import proofs.«01_k».proof.Proof.Gen.Reference3Ideal.Run

@[expose] public section

set_option maxRecDepth 16384

noncomputable section

namespace Cert.Qkv

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ) (c : Dev nD)

abbrev H : S16384x2048.Idx → EReal := m ((c : Thread nD τ).loc main_arg0)
abbrev Wq : S2048x1024.Idx → EReal := m ((c : Thread nD τ).loc main_arg1)
abbrev Wk : S2048x1024.Idx → EReal := m ((c : Thread nD τ).loc main_arg2)
abbrev Wv : S2048x1024.Idx → EReal := m ((c : Thread nD τ).loc main_arg3)
abbrev Qg : S128.Idx → EReal := m ((c : Thread nD τ).loc main_arg4)
abbrev Kg : S128.Idx → EReal := m ((c : Thread nD τ).loc main_arg5)
abbrev W1 : S2048x8192.Idx → EReal := m ((c : Thread nD τ).loc main_arg6)
abbrev W2 : S8192x2048.Idx → EReal := m ((c : Thread nD τ).loc main_arg7)

theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = t.val ∧ win0_6.index t 1 = 0 ∧ win0_7.index t 0 = t.val ∧ win0_7.index t 1 = 0 := by
  decide +kernel

theorem idxo : ∀ t : Fin cfg0.N, win0_8.index t 0 = t.val ∧ win0_8.index t 1 = 0 ∧ win0_9.index t 0 = t.val ∧ win0_9.index t 1 = 0
    ∧ win0_10.index t 0 = t.val ∧ win0_10.index t 1 = 0 ∧ win0_11.index t 0 = t.val ∧ win0_11.index t 1 = 0
    ∧ win0_12.index t 0 = t.val ∧ win0_12.index t 1 = 0 := by
  decide +kernel

theorem blk0 (t : Fin cfg0.N) (r : Fin 512) (k : Fin 2048) (h : t.val * 512 + r.val < 16384) :
    (iblk m c 0 t : Vec Ideal S512x2048 .bf16) (ix2 r k) = H m c (ix2 ⟨t.val * 512 + r.val, h⟩ k) := by
  blk_ext [iblk, V, idx t]

theorem blk1 (t : Fin cfg0.N) (k : Fin 2048) (j : Fin 1024) :
    (iblk m c 1 t : Vec Ideal S2048x1024 .bf16) (ix2 k j) = Wq m c (ix2 k j) := by
  blk_ext [iblk, V, idx t]

theorem blk2 (t : Fin cfg0.N) (k : Fin 2048) (j : Fin 1024) :
    (iblk m c 2 t : Vec Ideal S2048x1024 .bf16) (ix2 k j) = Wk m c (ix2 k j) := by
  blk_ext [iblk, V, idx t]

theorem blk3 (t : Fin cfg0.N) (k : Fin 2048) (j : Fin 1024) :
    (iblk m c 3 t : Vec Ideal S2048x1024 .bf16) (ix2 k j) = Wv m c (ix2 k j) := by
  blk_ext [iblk, V, idx t]

theorem blk4 (t : Fin cfg0.N) (k : Fin 128) :
    (iblk m c 4 t : Vec Ideal S1x128 .f32) (ix2 0 k) = Qg m c (ix1 k) := by
  blk_ext! [iblk, V, idx t]

theorem blk5 (t : Fin cfg0.N) (k : Fin 128) :
    (iblk m c 5 t : Vec Ideal S1x128 .f32) (ix2 0 k) = Kg m c (ix1 k) := by
  blk_ext! [iblk, V, idx t]

theorem blk6 (t : Fin cfg0.N) (r : Fin 64) (k : Fin 8192) (h : t.val * 64 + r.val < 2048) :
    (iblk m c 6 t : Vec Ideal S64x8192 .f32) (ix2 r k) = W1 m c (ix2 ⟨t.val * 64 + r.val, h⟩ k) := by
  blk_ext [iblk, V, idx t]

theorem blk7 (t : Fin cfg0.N) (r : Fin 256) (k : Fin 2048) (h : t.val * 256 + r.val < 8192) :
    (iblk m c 7 t : Vec Ideal S256x2048 .f32) (ix2 r k) = W2 m c (ix2 ⟨t.val * 256 + r.val, h⟩ k) := by
  blk_ext [iblk, V, idx t]

/-- The projection of every row by `w`, head by head normalised under the gain `g`. -/
def specHeads (x : S16384x2048.Idx → EReal) (w : S2048x1024.Idx → EReal) (g : Fin 128 → EReal) : S16384x1024.Idx → EReal := fun y =>
  have h : (y 1).val < 1024 := (y 1).isLt
  norm (fun l => ∑ k : Fin 2048, x (ix2 (y 0) k) * w (ix2 k ⟨(y 1).val / 128 * 128 + l.val, by omega⟩)) g ⟨(y 1).val % 128, by omega⟩

/-- The projection of every row by `w`. -/
def specRows (x : S16384x2048.Idx → EReal) (w : S2048x1024.Idx → EReal) : S16384x1024.Idx → EReal := fun y =>
  ∑ k : Fin 2048, x (ix2 (y 0) k) * w (ix2 k (y 1))

theorem norm_congr {x x' g g' : Fin 128 → EReal} {k k' : Fin 128} (hx : ∀ l, x l = x' l) (hg : ∀ l, g l = g' l) (hk : k.val = k'.val) :
    norm x g k = norm x' g' k' := by
  obtain rfl := funext hx
  obtain rfl := funext hg
  obtain rfl := Fin.ext hk
  rfl

theorem heads_at (x : Vec Ideal S512x2048 .bf16) (w : Vec Ideal S2048x1024 .bf16) (g : Fin 128 → EReal)
    (X : S16384x2048.Idx → EReal) (W : S2048x1024.Idx → EReal) (g' : Fin 128 → EReal) (y : S512x1024.Idx) (z : S16384x1024.Idx)
    (o : ℕ) (h0 : (z 0).val = o + (y 0).val) (h1 : (z 1).val = (y 1).val)
    (hx : ∀ (r : Fin 512) (k : Fin 2048) (h : o + r.val < 16384), x (ix2 r k) = X (ix2 ⟨o + r.val, h⟩ k))
    (hw : ∀ k j, w (ix2 k j) = W (ix2 k j)) (hg : ∀ l, g l = g' l) : heads x w g y = specHeads X W g' z := by
  have hz0 : (z 0).val < 16384 := (z 0).isLt
  unfold heads specHeads
  refine norm_congr (fun l => Finset.sum_congr rfl fun k _ => congrArg₂ (· * ·) ?_ ?_) hg ?_
  · exact (hx (y 0) k (by omega)).trans (congrArg X (same fun a => by match a with | ⟨0, _⟩ => exact h0.symm | ⟨1, _⟩ => rfl))
  · refine (hw _ _).trans (congrArg W (same fun a => ?_))
    match a with
    | ⟨0, _⟩ => rfl
    | ⟨1, _⟩ => exact congrArg (fun n : ℕ => n / 128 * 128 + l.val) h1.symm
  · exact congrArg (fun n : ℕ => n % 128) h1.symm

theorem final8 : (dats m 0 c).arrAt 8 cfg0.N = specHeads (H m c) (Wq m c) (fun l => Qg m c (ix1 l) * named κ "scale_log2e" 0x3E0293EE#32) := by
  refine (dats m 0 c).arrAt_eq_of_covers 8 _ (by decide +kernel) fun t hf y => ?_
  rw [after0_8, out8]
  refine heads_at _ _ _ _ _ _ _ _ (t.val * 512) ?_ ?_ (fun r k h => blk0 m c t r k h) (blk1 m c t) (fun l => congrArg (· * _) (blk4 m c t l))
  · blk_simp
    rw [(idxo t).1]
  · blk_simp
    rw [(idxo t).2.1]
    exact (congrArg (· + _) (Nat.zero_mul _)).trans (Nat.zero_add _)

theorem final9 : (dats m 0 c).arrAt 9 cfg0.N = specHeads (H m c) (Wk m c) (fun l => Kg m c (ix1 l)) := by
  refine (dats m 0 c).arrAt_eq_of_covers 9 _ (by decide +kernel) fun t hf y => ?_
  rw [after0_9, out9]
  refine heads_at _ _ _ _ _ _ _ _ (t.val * 512) ?_ ?_ (fun r k h => blk0 m c t r k h) (blk2 m c t) (fun l => blk5 m c t l)
  · blk_simp
    rw [(idxo t).2.2.1]
  · blk_simp
    rw [(idxo t).2.2.2.1]
    exact (congrArg (· + _) (Nat.zero_mul _)).trans (Nat.zero_add _)

theorem rows_at (x : Vec Ideal S512x2048 .bf16) (w : Vec Ideal S2048x1024 .bf16)
    (X : S16384x2048.Idx → EReal) (W : S2048x1024.Idx → EReal) (y : S512x1024.Idx) (z : S16384x1024.Idx)
    (o : ℕ) (h0 : (z 0).val = o + (y 0).val) (h1 : (z 1).val = (y 1).val)
    (hx : ∀ (r : Fin 512) (k : Fin 2048) (h : o + r.val < 16384), x (ix2 r k) = X (ix2 ⟨o + r.val, h⟩ k))
    (hw : ∀ k j, w (ix2 k j) = W (ix2 k j)) : rows x w y = specRows X W z := by
  have hz0 : (z 0).val < 16384 := (z 0).isLt
  unfold rows specRows
  refine Finset.sum_congr rfl fun k _ => congrArg₂ (· * ·) ?_ ?_
  · exact (hx (y 0) k (by omega)).trans (congrArg X (same fun a => by match a with | ⟨0, _⟩ => exact h0.symm | ⟨1, _⟩ => rfl))
  · exact (hw _ _).trans (congrArg W (same fun a => by match a with | ⟨0, _⟩ => rfl | ⟨1, _⟩ => exact h1.symm))

theorem final10 : (dats m 0 c).arrAt 10 cfg0.N = specRows (H m c) (Wv m c) := by
  refine (dats m 0 c).arrAt_eq_of_covers 10 _ (by decide +kernel) fun t hf y => ?_
  rw [after0_10, out10]
  refine rows_at _ _ _ _ _ _ (t.val * 512) ?_ ?_ (fun r k h => blk0 m c t r k h) (blk3 m c t)
  · blk_simp
    rw [(idxo t).2.2.2.2.1]
  · blk_simp
    rw [(idxo t).2.2.2.2.2.1]
    exact (congrArg (· + _) (Nat.zero_mul _)).trans (Nat.zero_add _)

theorem cast11 (x : Vec Ideal S64x8192 .f32) (X : S2048x8192.Idx → EReal) (y : S64x8192.Idx) (z : S2048x8192.Idx)
    (o : ℕ) (h0 : (z 0).val = o + (y 0).val) (h1 : (z 1).val = (y 1).val)
    (hx : ∀ (r : Fin 64) (k : Fin 8192) (h : o + r.val < 2048), x (ix2 r k) = X (ix2 ⟨o + r.val, h⟩ k)) : x y = X z := by
  have hz0 : (z 0).val < 2048 := (z 0).isLt
  refine (show x y = x (ix2 (y 0) (y 1)) from congrArg x (same fun b => by match b with | ⟨0, _⟩ => rfl | ⟨1, _⟩ => rfl)).trans ((hx _ _ (by omega)).trans (congrArg X (same fun a => ?_)))
  match a with
  | ⟨0, _⟩ => exact h0.symm
  | ⟨1, _⟩ => exact h1.symm

theorem final11 : (dats m 0 c).arrAt 11 cfg0.N = W1 m c := by
  refine (dats m 0 c).arrAt_eq_of_covers 11 _ (by decide +kernel) fun t hf y => ?_
  rw [after0_11, out11]
  refine cast11 _ _ _ _ (t.val * 64) ?_ ?_ (fun r k h => blk6 m c t r k h)
  · blk_simp
    rw [(idxo t).2.2.2.2.2.2.1]
  · blk_simp
    rw [(idxo t).2.2.2.2.2.2.2.1]
    rw [Nat.zero_mul, Nat.zero_add]
    first | done | rfl

theorem cast12 (x : Vec Ideal S256x2048 .f32) (X : S8192x2048.Idx → EReal) (y : S256x2048.Idx) (z : S8192x2048.Idx)
    (o : ℕ) (h0 : (z 0).val = o + (y 0).val) (h1 : (z 1).val = (y 1).val)
    (hx : ∀ (r : Fin 256) (k : Fin 2048) (h : o + r.val < 8192), x (ix2 r k) = X (ix2 ⟨o + r.val, h⟩ k)) : x y = X z := by
  have hz0 : (z 0).val < 8192 := (z 0).isLt
  refine (show x y = x (ix2 (y 0) (y 1)) from congrArg x (same fun b => by match b with | ⟨0, _⟩ => rfl | ⟨1, _⟩ => rfl)).trans ((hx _ _ (by omega)).trans (congrArg X (same fun a => ?_)))
  match a with
  | ⟨0, _⟩ => exact h0.symm
  | ⟨1, _⟩ => exact h1.symm

theorem final12 : (dats m 0 c).arrAt 12 cfg0.N = W2 m c := by
  refine (dats m 0 c).arrAt_eq_of_covers 12 _ (by decide +kernel) fun t hf y => ?_
  rw [after0_12, out12]
  refine cast12 _ _ _ _ (t.val * 256) ?_ ?_ (fun r k h => blk7 m c t r k h)
  · blk_simp
    rw [(idxo t).2.2.2.2.2.2.2.2.1]
  · blk_simp
    rw [(idxo t).2.2.2.2.2.2.2.2.2]
    exact (congrArg (· + _) (Nat.zero_mul _)).trans (Nat.zero_add _)

end Cert.Qkv

namespace Cert.QkvRef

open Cert.Reference3Ideal Cert.Reference3Ideal.Gen Cert.Reference3Ideal.Value Idealize.ShloMosaic Idealize.ShloMosaic.TcCoe Idealize.SL.Sem

theorem idx2 {n k : ℕ} (i : (⟨2, ![n, k]⟩ : Shape).Idx) : ∃ r d, i = ix2 r d :=
  ⟨i 0, i 1, funext fun a => by fin_cases a <;> rfl⟩

theorem lane (d : Fin 1024) (h : d.val / 128 * 128 + d.val % 128 < 1024) : (⟨d.val / 128 * 128 + d.val % 128, h⟩ : Fin 1024) = d :=
  Fin.ext (by show d.val / 128 * 128 + d.val % 128 = d.val; omega)

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem scale_eq : named Cert.Kernel3Ideal.κ "scale_log2e" 0x3E0293EE#32 = (((Real.sqrt 128)⁻¹ * (Real.log 2)⁻¹ : ℝ) : EReal) :=
  IdealRules.named_const.ideal_named_scalar _ _ _ _ rfl

/-- Dividing by the root of 128 and by the logarithm of 2 is multiplying by the named constant. -/
theorem scaled (a b : EReal) : Ideal.div (Ideal.div (a * b) (Ideal.sqrt (Ideal.ofBits .f32 0x43000000#32))) (Ideal.log (Ideal.ofBits .f32 0x40000000#32))
    = a * (b * named Cert.Kernel3Ideal.κ "scale_log2e" 0x3E0293EE#32) := by
  have h1 : Real.sqrt 128 ≠ 0 := (Real.sqrt_pos.mpr (by norm_num)).ne'
  have h2 : Real.log 2 ≠ 0 := (Real.log_pos (by norm_num)).ne'
  rw [scale_eq, ofBits_128, ofBits_2, Ideal.sqrt_coe, if_neg (by norm_num), Ideal.log_coe, if_neg (by norm_num), Ideal.div_coe h1,
    Ideal.div_coe h2, one_div, one_div, EReal.coe_mul]
  simp only [mul_assoc]

theorem final0 (h : FVec Ideal S16384x2048 .bf16) (wq : FVec Ideal S2048x1024 .bf16) (qg : FVec Ideal S128 .f32) :
    truncf .bf16 (shapeCast _ (Host.divf (Host.divf (mulf (mulf (shapeCast _ (Host.dotGeneral dot_S16384x2048_S2048x1024_S16384x1024_1_0_0_1_n_n none (extf .f32 h bitsLt_bf16_f32) (extf .f32 wq bitsLt_bf16_f32)) shapeCasts_S16384x1024_S16384x8x128) (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf (shapeCast _ (Host.dotGeneral dot_S16384x2048_S2048x1024_S16384x1024_1_0_0_1_n_n none (extf .f32 h bitsLt_bf16_f32) (extf .f32 wq bitsLt_bf16_f32)) shapeCasts_S16384x1024_S16384x8x128) (shapeCast _ (Host.dotGeneral dot_S16384x2048_S2048x1024_S16384x1024_1_0_0_1_n_n none (extf .f32 h bitsLt_bf16_f32) (extf .f32 wq bitsLt_bf16_f32)) shapeCasts_S16384x1024_S16384x8x128)) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))) (broadcastInDim S16384x8x128 ![0, 1, 2] bcast_S1x1x128_S16384x8x128_0_1_2 (broadcastInDim S1x1x128 ![2] bcast_S128_S1x1x128_2 qg))) (broadcastInDim S16384x8x128 ![] bcast_S_S16384x8x128 (Host.sqrt (constant S_ .f32 0x43000000#32)))) (broadcastInDim S16384x8x128 ![] bcast_S_S16384x8x128 (Host.log (constant S_ .f32 0x40000000#32)))) shapeCasts_S16384x8x128_S16384x1024) bitsLt_bf16_f32
      = Qkv.specHeads h wq (fun l => qg (ix1 l) * named Cert.Kernel3Ideal.κ "scale_log2e" 0x3E0293EE#32) := by
  funext i
  obtain ⟨r, d, rfl⟩ := idx2 i
  unfold Qkv.specHeads Qkv.norm
  pointwise
  simp only [lane d]
  exact scaled _ _

theorem final1 (h : FVec Ideal S16384x2048 .bf16) (wk : FVec Ideal S2048x1024 .bf16) (kg : FVec Ideal S128 .f32) :
    truncf .bf16 (shapeCast _ (mulf (mulf (shapeCast _ (Host.dotGeneral dot_S16384x2048_S2048x1024_S16384x1024_1_0_0_1_n_n none (extf .f32 h bitsLt_bf16_f32) (extf .f32 wk bitsLt_bf16_f32)) shapeCasts_S16384x1024_S16384x8x128) (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf (shapeCast _ (Host.dotGeneral dot_S16384x2048_S2048x1024_S16384x1024_1_0_0_1_n_n none (extf .f32 h bitsLt_bf16_f32) (extf .f32 wk bitsLt_bf16_f32)) shapeCasts_S16384x1024_S16384x8x128) (shapeCast _ (Host.dotGeneral dot_S16384x2048_S2048x1024_S16384x1024_1_0_0_1_n_n none (extf .f32 h bitsLt_bf16_f32) (extf .f32 wk bitsLt_bf16_f32)) shapeCasts_S16384x1024_S16384x8x128)) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32)))))) (broadcastInDim S16384x8x128 ![0, 1, 2] bcast_S1x1x128_S16384x8x128_0_1_2 (broadcastInDim S1x1x128 ![2] bcast_S128_S1x1x128_2 kg))) shapeCasts_S16384x8x128_S16384x1024) bitsLt_bf16_f32
      = Qkv.specHeads h wk (fun l => kg (ix1 l)) := by
  funext i
  obtain ⟨r, d, rfl⟩ := idx2 i
  unfold Qkv.specHeads Qkv.norm
  pointwise
  simp only [lane d]

theorem final2 (h : FVec Ideal S16384x2048 .bf16) (wv : FVec Ideal S2048x1024 .bf16) :
    truncf .bf16 (Host.dotGeneral dot_S16384x2048_S2048x1024_S16384x1024_1_0_0_1_n_n none (extf .f32 h bitsLt_bf16_f32) (extf .f32 wv bitsLt_bf16_f32)) bitsLt_bf16_f32
      = Qkv.specRows h wv := by
  funext i
  obtain ⟨r, d, rfl⟩ := idx2 i
  unfold Qkv.specRows
  pointwise

end Cert.QkvRef

end
-- ==== Proof.QkvRun.lean ====
module

public import proofs.«01_k».proof.Defs
public import proofs.«01_k».proof.Proof.Qkv
public import proofs.«01_k».proof.Proof.Gen.Kernel3Ideal.Value
public import proofs.«01_k».proof.Proof.Gen.Reference3Ideal.Run

@[expose] public section

noncomputable section

namespace Cert.Proof

open Idealize.ShloMosaic Idealize.SL.Sem

/-- The reference keeps its arguments and leaves every counter at zero. -/
theorem frameRef3 : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The one rewrite names the scale of the queries. -/
theorem preserves3 : Cert.preserves_Kernel3_Kernel3Ideal :=
  IdealRules.named_const.statement Cert.Kernel3Ideal.κ "scale_log2e" .f32 0x3E0293EE#32 (((Real.sqrt 128)⁻¹ * (Real.log 2)⁻¹ : ℝ) : EReal) rfl

/-- The projections and their reference leave the same five arrays. -/
theorem algebraic3 : Cert.algebraic_Kernel3Ideal_Reference3Ideal
    (hKernel3Ideal := Cert.Kernel3Ideal.Gen.facts) (hReference3Ideal := Cert.Reference3Ideal.Gen.facts) := by
  intro m ρ m' ρ' _ hag
  refine ⟨fun c => Cert.Qkv.specHeads (Cert.Qkv.H m c) (Cert.Qkv.Wq m c)
      (fun l => Cert.Qkv.Qg m c (ix1 l) * named Cert.Kernel3Ideal.κ "scale_log2e" 0x3E0293EE#32),
    fun c => Cert.Qkv.specHeads (Cert.Qkv.H m c) (Cert.Qkv.Wk m c) (fun l => Cert.Qkv.Kg m c (ix1 l)),
    fun c => Cert.Qkv.specRows (Cert.Qkv.H m c) (Cert.Qkv.Wv m c),
    fun c => Cert.Qkv.W1 m c, fun c => Cert.Qkv.W2 m c, ?_, ?_⟩
  · exact (θ_run _ _ _).mono (fun r h c => ⟨(h c).1.trans (Cert.Qkv.final8 m c), (h c).2.1.trans (Cert.Qkv.final9 m c),
      (h c).2.2.1.trans (Cert.Qkv.final10 m c), (h c).2.2.2.1.trans (Cert.Qkv.final11 m c),
      (h c).2.2.2.2.1.trans (Cert.Qkv.final12 m c), (h c).2.2.2.2.2⟩) (Cert.Kernel3Ideal.Value.run_blocks m ρ)
  · refine (θ_run _ _ _).mono (fun r h c => ?_) (Cert.Reference3Ideal.Value.run (F := Ideal) m' ρ')
    obtain ⟨h0, h1, h2, h3, h4, h5, h6, h7⟩ := hag c
    refine ⟨(h c).1.trans ((Cert.QkvRef.final0 _ _ _).trans ?_), (h c).2.1.trans ((Cert.QkvRef.final1 _ _ _).trans ?_),
      (h c).2.2.1.trans ((Cert.QkvRef.final2 _ _).trans ?_), (h c).2.2.2.1.trans ?_, (h c).2.2.2.2.1.trans ?_, (h c).2.2.2.2.2⟩
    · unfold Cert.Qkv.H Cert.Qkv.Wq Cert.Qkv.Qg
      exact congr (congr (congrArg Cert.Qkv.specHeads h0) h1) (funext fun l => congrArg (· * _) (congrFun h4 _))
    · unfold Cert.Qkv.H Cert.Qkv.Wk Cert.Qkv.Kg
      exact congr (congr (congrArg Cert.Qkv.specHeads h0) h2) (funext fun l => congrFun h5 _)
    · unfold Cert.Qkv.H Cert.Qkv.Wv
      exact congr (congrArg Cert.Qkv.specRows h0) h3
    · exact h6
    · exact h7

end Cert.Proof

end
-- ==== Proof.VgBody.lean ====
/- The value-and-gate projection, one grid point: what its body leaves in each of its six output blocks, entry by
   entry over the extended reals. -/
module

public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Vg

open Cert.Kernel4Ideal Cert.Kernel4Ideal.Gen Idealize.ShloMosaic Idealize.ShloMosaic.TcCoe Idealize.SL.Sem

theorem hz : (![0, 0] : Fin 2 → Nat) = fun _ => 0 := funext fun a => by fin_cases a <;> rfl

/-- Two indices are one when their coordinates are. -/
theorem same {S : Shape} {x y : S.Idx} (h : ∀ a, (x a).val = (y a).val) : x = y := funext fun a => Fin.ext (h a)

/-- One entry of a normalised row `x` of 2048 numbers under the gain `g`. -/
def norm (x g : Fin 2048 → EReal) (k : Fin 2048) : EReal :=
  x k * Ideal.rsqrt (Ideal.div (∑ l : Fin 2048, x l * x l) (Ideal.ofBits .f32 0x45000000#32)
    + Ideal.ofBits .f32 0x358637BD#32) * g k

/-- A load through a box reads, of the stores below it, what the box cuts out. -/
theorem readCov_part {S : Shape} {e : EltTy} {sp : Space} {v : View sig .tc sp S e} (off size : Fin S.rank → Nat)
    (inb : ∀ a, off a + size a ≤ S.size a) (L : List (View.Piece (Elt Ideal) S e)) :
    v.readCov L (Rect.unit off size inb).toLoadRect = View.ld (View.canon L) (Rect.unit off size inb) := by
  rw [View.readCov_eq_canon']

/-- The 1024 rows of the block `x`, each normalised under the gain `g`. -/
def rowsOf (x : Vec Ideal S1024x2048 .f32) (g : Vec Ideal S1x2048 .f32) : Vec Ideal S1024x2048 .bf16 :=
  fun y => norm (fun l => x (ix2 (y 0) l)) (fun l => g (ix2 0 l)) (y 1)

/-- Sixty-four rows from row `ro` on. -/
theorem strip (G : S1024x2048.Idx → EReal) (ro : ℕ) (inb : ∀ a, (![ro, 0] : Fin 2 → ℕ) a + S64x2048.size a ≤ S1024x2048.size a)
    (P : S64x2048.Idx → EReal) (h : ∀ r : Fin 64, ro + r.val < 1024)
    (hP : ∀ (r : Fin 64) (d : Fin 2048), P (ix2 r d) = G (ix2 ⟨ro + r.val, h r⟩ d)) (y : S64x2048.Idx) :
    P y = G ((Rect.unit (s := S1024x2048) ![ro, 0] S64x2048.size inb).emb y) := by
  refine (show P y = P (ix2 (y 0) (y 1)) from congrArg P (same fun b => by fin_cases b <;> rfl)).trans ((hP _ _).trans (congrArg G (same fun a => ?_)))
  refine Eq.trans ?_ (Rect.idx_unit_val (s := S1024x2048) ![ro, 0] S64x2048.size inb y a).symm
  match a with
  | ⟨0, _⟩ => rfl
  | ⟨1, _⟩ => exact (Nat.zero_add _).symm

/-- A head's 128 lanes of 256 rows: the rows `H` against the columns `W`. -/
def heads (H : Vec Ideal S1024x2048 .bf16) (W : Vec Ideal S2048x2048 .bf16) : S16x1024x128.Idx → EReal := fun y =>
  have h0 : (y 0).val < 16 := (y 0).isLt
  have h2 : (y 2).val < 128 := (y 2).isLt
  ∑ k : Fin 2048, H (ix2 (y 1) k) * W (ix2 k ⟨(y 0).val * 128 + (y 2).val, by omega⟩)

theorem slab (H : Vec Ideal S1024x2048 .bf16) (W : Vec Ideal S2048x2048 .bf16) (hd ro : ℕ)
    (inb : ∀ a, (![hd, ro, 0] : Fin 3 → ℕ) a + (![1, 256, 128] : Fin 3 → ℕ) a ≤ S16x1024x128.size a)
    (P : S1x256x128.Idx → EReal) (hr : ∀ r : Fin 256, ro + r.val < 1024) (hh : ∀ d : Fin 128, hd * 128 + d.val < 2048)
    (hP : ∀ (r : Fin 256) (d : Fin 128), P (ix3 0 r d) = ∑ k : Fin 2048, H (ix2 ⟨ro + r.val, hr r⟩ k) * W (ix2 k ⟨hd * 128 + d.val, hh d⟩))
    (y : S1x256x128.Idx) : P y = heads H W ((Rect.unit (s := S16x1024x128) ![hd, ro, 0] ![1, 256, 128] inb).emb y) := by
  have h0 : (y 0).val < 1 := (y 0).isLt
  have e0 : (((Rect.unit (s := S16x1024x128) ![hd, ro, 0] ![1, 256, 128] inb).emb y) 0).val = hd + (y 0).val := Rect.idx_unit_val (s := S16x1024x128) ![hd, ro, 0] ![1, 256, 128] inb y 0
  have e1 : (((Rect.unit (s := S16x1024x128) ![hd, ro, 0] ![1, 256, 128] inb).emb y) 1).val = ro + (y 1).val := Rect.idx_unit_val (s := S16x1024x128) ![hd, ro, 0] ![1, 256, 128] inb y 1
  have e2 : (((Rect.unit (s := S16x1024x128) ![hd, ro, 0] ![1, 256, 128] inb).emb y) 2).val = 0 + (y 2).val := Rect.idx_unit_val (s := S16x1024x128) ![hd, ro, 0] ![1, 256, 128] inb y 2
  refine (show P y = P (ix3 0 (y 1) (y 2)) from congrArg P (same fun b => ?_)).trans ((hP _ _).trans ?_)
  · match b with
    | ⟨0, _⟩ => show (y 0).val = 0; omega
    | ⟨1, _⟩ => rfl
    | ⟨2, _⟩ => rfl
  unfold heads
  generalize (Rect.unit (s := S16x1024x128) ![hd, ro, 0] ![1, 256, 128] inb).emb y = z at e0 e1 e2
  refine Finset.sum_congr rfl fun k _ => congrArg₂ (· * ·) (congrArg H (same fun a => ?_)) (congrArg W (same fun a => ?_))
  · match a with
    | ⟨0, _⟩ => exact e1.symm
    | ⟨1, _⟩ => rfl
  · match a with
    | ⟨0, _⟩ => rfl
    | ⟨1, _⟩ => show hd * 128 + (y 2).val = (z 0).val * 128 + (z 2).val; omega

variable (c : Dev nD) (i : grid0.Coords) (a1 : Memref sig .tc .vmem S1024x2048 .f32) (h1 : a1.IsWhole)
  (a2 : Memref sig .tc .vmem S1x2048 .f32) (h2 : a2.IsWhole) (a3 : Memref sig .tc .vmem S2048x2048 .bf16) (h3 : a3.IsWhole)
  (a4 : Memref sig .tc .vmem S128x1024 .f32) (h4 : a4.IsWhole) (a5 : Memref sig .tc .vmem S128x1024 .f32) (h5 : a5.IsWhole)
  (a6 : Memref sig .tc .vmem S128x1024 .f32) (h6 : a6.IsWhole) (a7 : Memref sig .tc .vmem S128x2048 .f32) (h7 : a7.IsWhole)
  (a8 : Memref sig .tc .vmem S16x1024x128 .bf16) (h8 : a8.IsWhole) (a9 : Memref sig .tc .vmem S1024x2048 .bf16) (h9 : a9.IsWhole)
  (a10 : Memref sig .tc .vmem S128x1024 .bf16) (h10 : a10.IsWhole) (a11 : Memref sig .tc .vmem S128x1024 .bf16) (h11 : a11.IsWhole)
  (a12 : Memref sig .tc .vmem S128x1024 .bf16) (h12 : a12.IsWhole) (a13 : Memref sig .tc .vmem S128x2048 .bf16) (h13 : a13.IsWhole)
  (x0 : Vec Ideal S1024x2048 .f32) (x1 : Vec Ideal S1x2048 .f32) (x2 : Vec Ideal S2048x2048 .bf16)
  (x3 x4 x5 : Vec Ideal S128x1024 .f32) (x6 : Vec Ideal S128x2048 .f32)

/-- The sixteen stores of the normalised rows leave them all. -/
theorem rows_canon : View.canon [
      (⟨Rect.unit ![960, 0] ![64, 2048] inb_S1024x2048_S64x2048_960_0, k0_pay21 (View.ld x0 (Rect.unit (s := S1024x2048) ![960, 0] ![64, 2048] inb_S1024x2048_S64x2048_960_0)) (k0_pay20 (View.ld x0 (Rect.unit (s := S1024x2048) ![960, 0] ![64, 2048] inb_S1024x2048_S64x2048_960_0))) x1⟩ : View.Piece (Elt Ideal) S1024x2048 .bf16),
      ⟨Rect.unit ![896, 0] ![64, 2048] inb_S1024x2048_S64x2048_896_0, k0_pay19 (View.ld x0 (Rect.unit (s := S1024x2048) ![896, 0] ![64, 2048] inb_S1024x2048_S64x2048_896_0)) x1⟩,
      ⟨Rect.unit ![832, 0] ![64, 2048] inb_S1024x2048_S64x2048_832_0, k0_pay18 (View.ld x0 (Rect.unit (s := S1024x2048) ![832, 0] ![64, 2048] inb_S1024x2048_S64x2048_832_0)) (k0_pay17 (View.ld x0 (Rect.unit (s := S1024x2048) ![832, 0] ![64, 2048] inb_S1024x2048_S64x2048_832_0))) (FloatOps.ofBits .f32 0x45000000#32) x1⟩,
      ⟨Rect.unit ![768, 0] ![64, 2048] inb_S1024x2048_S64x2048_768_0, k0_pay16 (View.ld x0 (Rect.unit (s := S1024x2048) ![768, 0] ![64, 2048] inb_S1024x2048_S64x2048_768_0)) x1⟩,
      ⟨Rect.unit ![704, 0] ![64, 2048] inb_S1024x2048_S64x2048_704_0, k0_pay15 (View.ld x0 (Rect.unit (s := S1024x2048) ![704, 0] ![64, 2048] inb_S1024x2048_S64x2048_704_0)) x1⟩,
      ⟨Rect.unit ![640, 0] ![64, 2048] inb_S1024x2048_S64x2048_640_0, k0_pay14 (View.ld x0 (Rect.unit (s := S1024x2048) ![640, 0] ![64, 2048] inb_S1024x2048_S64x2048_640_0)) x1⟩,
      ⟨Rect.unit ![576, 0] ![64, 2048] inb_S1024x2048_S64x2048_576_0, k0_pay13 (View.ld x0 (Rect.unit (s := S1024x2048) ![576, 0] ![64, 2048] inb_S1024x2048_S64x2048_576_0)) x1⟩,
      ⟨Rect.unit ![512, 0] ![64, 2048] inb_S1024x2048_S64x2048_512_0, k0_pay12 (View.ld x0 (Rect.unit (s := S1024x2048) ![512, 0] ![64, 2048] inb_S1024x2048_S64x2048_512_0)) x1⟩,
      ⟨Rect.unit ![448, 0] ![64, 2048] inb_S1024x2048_S64x2048_448_0, k0_pay11 (View.ld x0 (Rect.unit (s := S1024x2048) ![448, 0] ![64, 2048] inb_S1024x2048_S64x2048_448_0)) x1⟩,
      ⟨Rect.unit ![384, 0] ![64, 2048] inb_S1024x2048_S64x2048_384_0, k0_pay10 (k0_pay9 (View.ld x0 (Rect.unit (s := S1024x2048) ![384, 0] ![64, 2048] inb_S1024x2048_S64x2048_384_0))) x1⟩,
      ⟨Rect.unit ![320, 0] ![64, 2048] inb_S1024x2048_S64x2048_320_0, k0_pay8 (View.ld x0 (Rect.unit (s := S1024x2048) ![320, 0] ![64, 2048] inb_S1024x2048_S64x2048_320_0)) x1⟩,
      ⟨Rect.unit ![256, 0] ![64, 2048] inb_S1024x2048_S64x2048_256_0, k0_pay7 (View.ld x0 (Rect.unit (s := S1024x2048) ![256, 0] ![64, 2048] inb_S1024x2048_S64x2048_256_0)) (k0_pay6 (View.ld x0 (Rect.unit (s := S1024x2048) ![256, 0] ![64, 2048] inb_S1024x2048_S64x2048_256_0))) (FloatOps.ofBits .f32 0x358637BD#32) x1⟩,
      ⟨Rect.unit ![192, 0] ![64, 2048] inb_S1024x2048_S64x2048_192_0, k0_pay5 (View.ld x0 (Rect.unit (s := S1024x2048) ![192, 0] ![64, 2048] inb_S1024x2048_S64x2048_192_0)) x1⟩,
      ⟨Rect.unit ![128, 0] ![64, 2048] inb_S1024x2048_S64x2048_128_0, k0_pay4 (View.ld x0 (Rect.unit (s := S1024x2048) ![128, 0] ![64, 2048] inb_S1024x2048_S64x2048_128_0)) (k0_pay3 (View.ld x0 (Rect.unit (s := S1024x2048) ![128, 0] ![64, 2048] inb_S1024x2048_S64x2048_128_0))) x1⟩,
      ⟨Rect.unit ![64, 0] ![64, 2048] inb_S1024x2048_S64x2048_64_0, k0_pay2 (View.ld x0 (Rect.unit (s := S1024x2048) ![64, 0] ![64, 2048] inb_S1024x2048_S64x2048_64_0)) x1⟩,
      ⟨Rect.unit ![0, 0] ![64, 2048] inb_S1024x2048_S64x2048_0_0, k0_pay1 (View.ld x0 (Rect.unit (s := S1024x2048) ![0, 0] ![64, 2048] inb_S1024x2048_S64x2048_0_0)) x1⟩] = rowsOf x0 x1 := by
  funext y
  refine View.canon_apply_of_pieces _ _ ?_ y (View.cover_of_tiledL (s := S1024x2048) _ ![64, 2048] (by sl_kernel_rfl) y)
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩
  · refine strip _ 960 inb_S1024x2048_S64x2048_960_0 _ (fun r => by omega) fun r d => ?_
    unfold rowsOf norm k0_pay21 k0_pay20
    pointwise
  · refine strip _ 896 inb_S1024x2048_S64x2048_896_0 _ (fun r => by omega) fun r d => ?_
    unfold rowsOf norm k0_pay19
    pointwise
  · refine strip _ 832 inb_S1024x2048_S64x2048_832_0 _ (fun r => by omega) fun r d => ?_
    unfold rowsOf norm k0_pay18 k0_pay17
    pointwise
  · refine strip _ 768 inb_S1024x2048_S64x2048_768_0 _ (fun r => by omega) fun r d => ?_
    unfold rowsOf norm k0_pay16
    pointwise
  · refine strip _ 704 inb_S1024x2048_S64x2048_704_0 _ (fun r => by omega) fun r d => ?_
    unfold rowsOf norm k0_pay15
    pointwise
  · refine strip _ 640 inb_S1024x2048_S64x2048_640_0 _ (fun r => by omega) fun r d => ?_
    unfold rowsOf norm k0_pay14
    pointwise
  · refine strip _ 576 inb_S1024x2048_S64x2048_576_0 _ (fun r => by omega) fun r d => ?_
    unfold rowsOf norm k0_pay13
    pointwise
  · refine strip _ 512 inb_S1024x2048_S64x2048_512_0 _ (fun r => by omega) fun r d => ?_
    unfold rowsOf norm k0_pay12
    pointwise
  · refine strip _ 448 inb_S1024x2048_S64x2048_448_0 _ (fun r => by omega) fun r d => ?_
    unfold rowsOf norm k0_pay11
    pointwise
  · refine strip _ 384 inb_S1024x2048_S64x2048_384_0 _ (fun r => by omega) fun r d => ?_
    unfold rowsOf norm k0_pay10 k0_pay9
    pointwise
  · refine strip _ 320 inb_S1024x2048_S64x2048_320_0 _ (fun r => by omega) fun r d => ?_
    unfold rowsOf norm k0_pay8
    pointwise
  · refine strip _ 256 inb_S1024x2048_S64x2048_256_0 _ (fun r => by omega) fun r d => ?_
    unfold rowsOf norm k0_pay7 k0_pay6
    pointwise
  · refine strip _ 192 inb_S1024x2048_S64x2048_192_0 _ (fun r => by omega) fun r d => ?_
    unfold rowsOf norm k0_pay5
    pointwise
  · refine strip _ 128 inb_S1024x2048_S64x2048_128_0 _ (fun r => by omega) fun r d => ?_
    unfold rowsOf norm k0_pay4 k0_pay3
    pointwise
  · refine strip _ 64 inb_S1024x2048_S64x2048_64_0 _ (fun r => by omega) fun r d => ?_
    unfold rowsOf norm k0_pay2
    pointwise
  · refine strip _ 0 inb_S1024x2048_S64x2048_0_0 _ (fun r => by omega) fun r d => ?_
    unfold rowsOf norm k0_pay1
    pointwise

theorem out8 : out0_A_8 c i a1 h1 a2 h2 a3 h3 a4 h4 a5 h5 a6 h6 a7 h7 a8 h8 a9 h9 a10 h10 a11 h11 a12 h12 a13 h13 x0 x1 x2 x3 x4 x5 x6 = rowsOf x0 x1 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 x0 x1 x2 x3 x4 x5 x6)]
  unfold kernelRun0_A
  dsimp only
  sl_unfold_words
  simp only [View.readAt_eq_ld, h1.read_unread, h2.read_unread, View.ld_unit_zero (S := S1x2048) hz]
  first | done | exact rows_canon x0 x1

theorem out7 : out0_A_7 c i a1 h1 a2 h2 a3 h3 a4 h4 a5 h5 a6 h6 a7 h7 a8 h8 a9 h9 a10 h10 a11 h11 a12 h12 a13 h13 x0 x1 x2 x3 x4 x5 x6 = heads (rowsOf x0 x1) x2 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 x0 x1 x2 x3 x4 x5 x6)]
  funext y
  have hcov := cover0_A_7 c i a1 h1 a2 h2 a3 h3 a4 h4 a5 h5 a6 h6 a7 h7 a8 h8 a9 h9 a10 h10 a11 h11 a12 h12 a13 h13 x0 x1 x2 x3 x4 x5 x6 y
  revert hcov
  unfold kernelRun0_A
  dsimp only
  sl_unfold_words
  simp only [View.readAt_eq_ld, h1.read_unread, h2.read_unread, h3.read_unread, readCov_part, View.ld_unit_zero (S := S1x2048) hz, rows_canon]
  generalize rowsOf x0 x1 = H
  intro hcov
  refine View.canon_apply_of_pieces _ _ ?_ y hcov
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩
  · refine slab _ _ 15 768 inb_S16x1024x128_S1x256x128_15_768_0 _ (fun r => by omega) (fun d => by omega) fun r d => ?_
    unfold k0_pay105 k0_pay100
    pointwise
    exact Finset.sum_congr rfl fun k _ => congrArg₂ (· * ·) rfl (congrArg (fun q => x2 (ix2 k q)) (Fin.ext (by show 1536 + (384 + d.val) = 1920 + d.val; omega)))
  · refine slab _ _ 14 768 inb_S16x1024x128_S1x256x128_14_768_0 _ (fun r => by omega) (fun d => by omega) fun r d => ?_
    unfold k0_pay104 k0_pay103 k0_pay100
    pointwise
    exact Finset.sum_congr rfl fun k _ => congrArg₂ (· * ·) rfl (congrArg (fun q => x2 (ix2 k q)) (Fin.ext (by show 1536 + (256 + d.val) = 1792 + d.val; omega)))
  · refine slab _ _ 13 768 inb_S16x1024x128_S1x256x128_13_768_0 _ (fun r => by omega) (fun d => by omega) fun r d => ?_
    unfold k0_pay102 k0_pay100
    pointwise
    exact Finset.sum_congr rfl fun k _ => congrArg₂ (· * ·) rfl (congrArg (fun q => x2 (ix2 k q)) (Fin.ext (by show 1536 + (128 + d.val) = 1664 + d.val; omega)))
  · refine slab _ _ 12 768 inb_S16x1024x128_S1x256x128_12_768_0 _ (fun r => by omega) (fun d => by omega) fun r d => ?_
    unfold k0_pay101 k0_pay100
    pointwise
  · refine slab _ _ 11 768 inb_S16x1024x128_S1x256x128_11_768_0 _ (fun r => by omega) (fun d => by omega) fun r d => ?_
    unfold k0_pay99 k0_pay95
    pointwise
    exact Finset.sum_congr rfl fun k _ => congrArg₂ (· * ·) rfl (congrArg (fun q => x2 (ix2 k q)) (Fin.ext (by show 1024 + (384 + d.val) = 1408 + d.val; omega)))
  · refine slab _ _ 10 768 inb_S16x1024x128_S1x256x128_10_768_0 _ (fun r => by omega) (fun d => by omega) fun r d => ?_
    unfold k0_pay98 k0_pay95
    pointwise
    exact Finset.sum_congr rfl fun k _ => congrArg₂ (· * ·) rfl (congrArg (fun q => x2 (ix2 k q)) (Fin.ext (by show 1024 + (256 + d.val) = 1280 + d.val; omega)))
  · refine slab _ _ 9 768 inb_S16x1024x128_S1x256x128_9_768_0 _ (fun r => by omega) (fun d => by omega) fun r d => ?_
    unfold k0_pay97 k0_pay95
    pointwise
    exact Finset.sum_congr rfl fun k _ => congrArg₂ (· * ·) rfl (congrArg (fun q => x2 (ix2 k q)) (Fin.ext (by show 1024 + (128 + d.val) = 1152 + d.val; omega)))
  · refine slab _ _ 8 768 inb_S16x1024x128_S1x256x128_8_768_0 _ (fun r => by omega) (fun d => by omega) fun r d => ?_
    unfold k0_pay96 k0_pay95
    pointwise
  · refine slab _ _ 7 768 inb_S16x1024x128_S1x256x128_7_768_0 _ (fun r => by omega) (fun d => by omega) fun r d => ?_
    unfold k0_pay94 k0_pay90
    pointwise
    exact Finset.sum_congr rfl fun k _ => congrArg₂ (· * ·) rfl (congrArg (fun q => x2 (ix2 k q)) (Fin.ext (by show 512 + (384 + d.val) = 896 + d.val; omega)))
  · refine slab _ _ 6 768 inb_S16x1024x128_S1x256x128_6_768_0 _ (fun r => by omega) (fun d => by omega) fun r d => ?_
    unfold k0_pay93 k0_pay90
    pointwise
    exact Finset.sum_congr rfl fun k _ => congrArg₂ (· * ·) rfl (congrArg (fun q => x2 (ix2 k q)) (Fin.ext (by show 512 + (256 + d.val) = 768 + d.val; omega)))
  · refine slab _ _ 5 768 inb_S16x1024x128_S1x256x128_5_768_0 _ (fun r => by omega) (fun d => by omega) fun r d => ?_
    unfold k0_pay92 k0_pay90
    pointwise
    exact Finset.sum_congr rfl fun k _ => congrArg₂ (· * ·) rfl (congrArg (fun q => x2 (ix2 k q)) (Fin.ext (by show 512 + (128 + d.val) = 640 + d.val; omega)))
  · refine slab _ _ 4 768 inb_S16x1024x128_S1x256x128_4_768_0 _ (fun r => by omega) (fun d => by omega) fun r d => ?_
    unfold k0_pay91 k0_pay90
    pointwise
  · refine slab _ _ 3 768 inb_S16x1024x128_S1x256x128_3_768_0 _ (fun r => by omega) (fun d => by omega) fun r d => ?_
    unfold k0_pay89 k0_pay85
    pointwise
  · refine slab _ _ 2 768 inb_S16x1024x128_S1x256x128_2_768_0 _ (fun r => by omega) (fun d => by omega) fun r d => ?_
    unfold k0_pay88 k0_pay85
    pointwise
  · refine slab _ _ 1 768 inb_S16x1024x128_S1x256x128_1_768_0 _ (fun r => by omega) (fun d => by omega) fun r d => ?_
    unfold k0_pay87 k0_pay85
    pointwise
  · refine slab _ _ 0 768 inb_S16x1024x128_S1x256x128_0_768_0 _ (fun r => by omega) (fun d => by omega) fun r d => ?_
    unfold k0_pay86 k0_pay85
    pointwise
  · refine slab _ _ 15 512 inb_S16x1024x128_S1x256x128_15_512_0 _ (fun r => by omega) (fun d => by omega) fun r d => ?_
    unfold k0_pay84 k0_pay79
    pointwise
    exact Finset.sum_congr rfl fun k _ => congrArg₂ (· * ·) rfl (congrArg (fun q => x2 (ix2 k q)) (Fin.ext (by show 1536 + (384 + d.val) = 1920 + d.val; omega)))
  · refine slab _ _ 14 512 inb_S16x1024x128_S1x256x128_14_512_0 _ (fun r => by omega) (fun d => by omega) fun r d => ?_
    unfold k0_pay83 k0_pay82 k0_pay79
    pointwise
    exact Finset.sum_congr rfl fun k _ => congrArg₂ (· * ·) rfl (congrArg (fun q => x2 (ix2 k q)) (Fin.ext (by show 1536 + (256 + d.val) = 1792 + d.val; omega)))
  · refine slab _ _ 13 512 inb_S16x1024x128_S1x256x128_13_512_0 _ (fun r => by omega) (fun d => by omega) fun r d => ?_
    unfold k0_pay81 k0_pay79
    pointwise
    exact Finset.sum_congr rfl fun k _ => congrArg₂ (· * ·) rfl (congrArg (fun q => x2 (ix2 k q)) (Fin.ext (by show 1536 + (128 + d.val) = 1664 + d.val; omega)))
  · refine slab _ _ 12 512 inb_S16x1024x128_S1x256x128_12_512_0 _ (fun r => by omega) (fun d => by omega) fun r d => ?_
    unfold k0_pay80 k0_pay79
    pointwise
  · refine slab _ _ 11 512 inb_S16x1024x128_S1x256x128_11_512_0 _ (fun r => by omega) (fun d => by omega) fun r d => ?_
    unfold k0_pay78 k0_pay74
    pointwise
    exact Finset.sum_congr rfl fun k _ => congrArg₂ (· * ·) rfl (congrArg (fun q => x2 (ix2 k q)) (Fin.ext (by show 1024 + (384 + d.val) = 1408 + d.val; omega)))
  · refine slab _ _ 10 512 inb_S16x1024x128_S1x256x128_10_512_0 _ (fun r => by omega) (fun d => by omega) fun r d => ?_
    unfold k0_pay77 k0_pay74
    pointwise
    exact Finset.sum_congr rfl fun k _ => congrArg₂ (· * ·) rfl (congrArg (fun q => x2 (ix2 k q)) (Fin.ext (by show 1024 + (256 + d.val) = 1280 + d.val; omega)))
  · refine slab _ _ 9 512 inb_S16x1024x128_S1x256x128_9_512_0 _ (fun r => by omega) (fun d => by omega) fun r d => ?_
    unfold k0_pay76 k0_pay74
    pointwise
    exact Finset.sum_congr rfl fun k _ => congrArg₂ (· * ·) rfl (congrArg (fun q => x2 (ix2 k q)) (Fin.ext (by show 1024 + (128 + d.val) = 1152 + d.val; omega)))
  · refine slab _ _ 8 512 inb_S16x1024x128_S1x256x128_8_512_0 _ (fun r => by omega) (fun d => by omega) fun r d => ?_
    unfold k0_pay75 k0_pay74
    pointwise
  · refine slab _ _ 7 512 inb_S16x1024x128_S1x256x128_7_512_0 _ (fun r => by omega) (fun d => by omega) fun r d => ?_
    unfold k0_pay73 k0_pay69
    pointwise
    exact Finset.sum_congr rfl fun k _ => congrArg₂ (· * ·) rfl (congrArg (fun q => x2 (ix2 k q)) (Fin.ext (by show 512 + (384 + d.val) = 896 + d.val; omega)))
  · refine slab _ _ 6 512 inb_S16x1024x128_S1x256x128_6_512_0 _ (fun r => by omega) (fun d => by omega) fun r d => ?_
    unfold k0_pay72 k0_pay69
    pointwise
    exact Finset.sum_congr rfl fun k _ => congrArg₂ (· * ·) rfl (congrArg (fun q => x2 (ix2 k q)) (Fin.ext (by show 512 + (256 + d.val) = 768 + d.val; omega)))
  · refine slab _ _ 5 512 inb_S16x1024x128_S1x256x128_5_512_0 _ (fun r => by omega) (fun d => by omega) fun r d => ?_
    unfold k0_pay71 k0_pay69
    pointwise
    exact Finset.sum_congr rfl fun k _ => congrArg₂ (· * ·) rfl (congrArg (fun q => x2 (ix2 k q)) (Fin.ext (by show 512 + (128 + d.val) = 640 + d.val; omega)))
  · refine slab _ _ 4 512 inb_S16x1024x128_S1x256x128_4_512_0 _ (fun r => by omega) (fun d => by omega) fun r d => ?_
    unfold k0_pay70 k0_pay69
    pointwise
  · refine slab _ _ 3 512 inb_S16x1024x128_S1x256x128_3_512_0 _ (fun r => by omega) (fun d => by omega) fun r d => ?_
    unfold k0_pay68 k0_pay64
    pointwise
  · refine slab _ _ 2 512 inb_S16x1024x128_S1x256x128_2_512_0 _ (fun r => by omega) (fun d => by omega) fun r d => ?_
    unfold k0_pay67 k0_pay64
    pointwise
  · refine slab _ _ 1 512 inb_S16x1024x128_S1x256x128_1_512_0 _ (fun r => by omega) (fun d => by omega) fun r d => ?_
    unfold k0_pay66 k0_pay64
    pointwise
  · refine slab _ _ 0 512 inb_S16x1024x128_S1x256x128_0_512_0 _ (fun r => by omega) (fun d => by omega) fun r d => ?_
    unfold k0_pay65 k0_pay64
    pointwise
  · refine slab _ _ 15 256 inb_S16x1024x128_S1x256x128_15_256_0 _ (fun r => by omega) (fun d => by omega) fun r d => ?_
    unfold k0_pay63 k0_pay58
    pointwise
    exact Finset.sum_congr rfl fun k _ => congrArg₂ (· * ·) rfl (congrArg (fun q => x2 (ix2 k q)) (Fin.ext (by show 1536 + (384 + d.val) = 1920 + d.val; omega)))
  · refine slab _ _ 14 256 inb_S16x1024x128_S1x256x128_14_256_0 _ (fun r => by omega) (fun d => by omega) fun r d => ?_
    unfold k0_pay62 k0_pay61 k0_pay58
    pointwise
    exact Finset.sum_congr rfl fun k _ => congrArg₂ (· * ·) rfl (congrArg (fun q => x2 (ix2 k q)) (Fin.ext (by show 1536 + (256 + d.val) = 1792 + d.val; omega)))
  · refine slab _ _ 13 256 inb_S16x1024x128_S1x256x128_13_256_0 _ (fun r => by omega) (fun d => by omega) fun r d => ?_
    unfold k0_pay60 k0_pay58
    pointwise
    exact Finset.sum_congr rfl fun k _ => congrArg₂ (· * ·) rfl (congrArg (fun q => x2 (ix2 k q)) (Fin.ext (by show 1536 + (128 + d.val) = 1664 + d.val; omega)))
  · refine slab _ _ 12 256 inb_S16x1024x128_S1x256x128_12_256_0 _ (fun r => by omega) (fun d => by omega) fun r d => ?_
    unfold k0_pay59 k0_pay58
    pointwise
  · refine slab _ _ 11 256 inb_S16x1024x128_S1x256x128_11_256_0 _ (fun r => by omega) (fun d => by omega) fun r d => ?_
    unfold k0_pay57 k0_pay53
    pointwise
    exact Finset.sum_congr rfl fun k _ => congrArg₂ (· * ·) rfl (congrArg (fun q => x2 (ix2 k q)) (Fin.ext (by show 1024 + (384 + d.val) = 1408 + d.val; omega)))
  · refine slab _ _ 10 256 inb_S16x1024x128_S1x256x128_10_256_0 _ (fun r => by omega) (fun d => by omega) fun r d => ?_
    unfold k0_pay56 k0_pay53
    pointwise
    exact Finset.sum_congr rfl fun k _ => congrArg₂ (· * ·) rfl (congrArg (fun q => x2 (ix2 k q)) (Fin.ext (by show 1024 + (256 + d.val) = 1280 + d.val; omega)))
  · refine slab _ _ 9 256 inb_S16x1024x128_S1x256x128_9_256_0 _ (fun r => by omega) (fun d => by omega) fun r d => ?_
    unfold k0_pay55 k0_pay53
    pointwise
    exact Finset.sum_congr rfl fun k _ => congrArg₂ (· * ·) rfl (congrArg (fun q => x2 (ix2 k q)) (Fin.ext (by show 1024 + (128 + d.val) = 1152 + d.val; omega)))
  · refine slab _ _ 8 256 inb_S16x1024x128_S1x256x128_8_256_0 _ (fun r => by omega) (fun d => by omega) fun r d => ?_
    unfold k0_pay54 k0_pay53
    pointwise
  · refine slab _ _ 7 256 inb_S16x1024x128_S1x256x128_7_256_0 _ (fun r => by omega) (fun d => by omega) fun r d => ?_
    unfold k0_pay52 k0_pay48
    pointwise
    exact Finset.sum_congr rfl fun k _ => congrArg₂ (· * ·) rfl (congrArg (fun q => x2 (ix2 k q)) (Fin.ext (by show 512 + (384 + d.val) = 896 + d.val; omega)))
  · refine slab _ _ 6 256 inb_S16x1024x128_S1x256x128_6_256_0 _ (fun r => by omega) (fun d => by omega) fun r d => ?_
    unfold k0_pay51 k0_pay48
    pointwise
    exact Finset.sum_congr rfl fun k _ => congrArg₂ (· * ·) rfl (congrArg (fun q => x2 (ix2 k q)) (Fin.ext (by show 512 + (256 + d.val) = 768 + d.val; omega)))
  · refine slab _ _ 5 256 inb_S16x1024x128_S1x256x128_5_256_0 _ (fun r => by omega) (fun d => by omega) fun r d => ?_
    unfold k0_pay50 k0_pay48
    pointwise
    exact Finset.sum_congr rfl fun k _ => congrArg₂ (· * ·) rfl (congrArg (fun q => x2 (ix2 k q)) (Fin.ext (by show 512 + (128 + d.val) = 640 + d.val; omega)))
  · refine slab _ _ 4 256 inb_S16x1024x128_S1x256x128_4_256_0 _ (fun r => by omega) (fun d => by omega) fun r d => ?_
    unfold k0_pay49 k0_pay48
    pointwise
  · refine slab _ _ 3 256 inb_S16x1024x128_S1x256x128_3_256_0 _ (fun r => by omega) (fun d => by omega) fun r d => ?_
    unfold k0_pay47 k0_pay43
    pointwise
  · refine slab _ _ 2 256 inb_S16x1024x128_S1x256x128_2_256_0 _ (fun r => by omega) (fun d => by omega) fun r d => ?_
    unfold k0_pay46 k0_pay43
    pointwise
  · refine slab _ _ 1 256 inb_S16x1024x128_S1x256x128_1_256_0 _ (fun r => by omega) (fun d => by omega) fun r d => ?_
    unfold k0_pay45 k0_pay43
    pointwise
  · refine slab _ _ 0 256 inb_S16x1024x128_S1x256x128_0_256_0 _ (fun r => by omega) (fun d => by omega) fun r d => ?_
    unfold k0_pay44 k0_pay43
    pointwise
  · refine slab _ _ 15 0 inb_S16x1024x128_S1x256x128_15_0_0 _ (fun r => by omega) (fun d => by omega) fun r d => ?_
    unfold k0_pay42 k0_pay37
    pointwise
    exact Finset.sum_congr rfl fun k _ => congrArg₂ (· * ·) rfl (congrArg (fun q => x2 (ix2 k q)) (Fin.ext (by show 1536 + (384 + d.val) = 1920 + d.val; omega)))
  · refine slab _ _ 14 0 inb_S16x1024x128_S1x256x128_14_0_0 _ (fun r => by omega) (fun d => by omega) fun r d => ?_
    unfold k0_pay41 k0_pay40 k0_pay37
    pointwise
    exact Finset.sum_congr rfl fun k _ => congrArg₂ (· * ·) rfl (congrArg (fun q => x2 (ix2 k q)) (Fin.ext (by show 1536 + (256 + d.val) = 1792 + d.val; omega)))
  · refine slab _ _ 13 0 inb_S16x1024x128_S1x256x128_13_0_0 _ (fun r => by omega) (fun d => by omega) fun r d => ?_
    unfold k0_pay39 k0_pay37
    pointwise
    exact Finset.sum_congr rfl fun k _ => congrArg₂ (· * ·) rfl (congrArg (fun q => x2 (ix2 k q)) (Fin.ext (by show 1536 + (128 + d.val) = 1664 + d.val; omega)))
  · refine slab _ _ 12 0 inb_S16x1024x128_S1x256x128_12_0_0 _ (fun r => by omega) (fun d => by omega) fun r d => ?_
    unfold k0_pay38 k0_pay37
    pointwise
  · refine slab _ _ 11 0 inb_S16x1024x128_S1x256x128_11_0_0 _ (fun r => by omega) (fun d => by omega) fun r d => ?_
    unfold k0_pay36 k0_pay32
    pointwise
    exact Finset.sum_congr rfl fun k _ => congrArg₂ (· * ·) rfl (congrArg (fun q => x2 (ix2 k q)) (Fin.ext (by show 1024 + (384 + d.val) = 1408 + d.val; omega)))
  · refine slab _ _ 10 0 inb_S16x1024x128_S1x256x128_10_0_0 _ (fun r => by omega) (fun d => by omega) fun r d => ?_
    unfold k0_pay35 k0_pay32
    pointwise
    exact Finset.sum_congr rfl fun k _ => congrArg₂ (· * ·) rfl (congrArg (fun q => x2 (ix2 k q)) (Fin.ext (by show 1024 + (256 + d.val) = 1280 + d.val; omega)))
  · refine slab _ _ 9 0 inb_S16x1024x128_S1x256x128_9_0_0 _ (fun r => by omega) (fun d => by omega) fun r d => ?_
    unfold k0_pay34 k0_pay32
    pointwise
    exact Finset.sum_congr rfl fun k _ => congrArg₂ (· * ·) rfl (congrArg (fun q => x2 (ix2 k q)) (Fin.ext (by show 1024 + (128 + d.val) = 1152 + d.val; omega)))
  · refine slab _ _ 8 0 inb_S16x1024x128_S1x256x128_8_0_0 _ (fun r => by omega) (fun d => by omega) fun r d => ?_
    unfold k0_pay33 k0_pay32
    pointwise
  · refine slab _ _ 7 0 inb_S16x1024x128_S1x256x128_7_0_0 _ (fun r => by omega) (fun d => by omega) fun r d => ?_
    unfold k0_pay31 k0_pay27
    pointwise
    exact Finset.sum_congr rfl fun k _ => congrArg₂ (· * ·) rfl (congrArg (fun q => x2 (ix2 k q)) (Fin.ext (by show 512 + (384 + d.val) = 896 + d.val; omega)))
  · refine slab _ _ 6 0 inb_S16x1024x128_S1x256x128_6_0_0 _ (fun r => by omega) (fun d => by omega) fun r d => ?_
    unfold k0_pay30 k0_pay27
    pointwise
    exact Finset.sum_congr rfl fun k _ => congrArg₂ (· * ·) rfl (congrArg (fun q => x2 (ix2 k q)) (Fin.ext (by show 512 + (256 + d.val) = 768 + d.val; omega)))
  · refine slab _ _ 5 0 inb_S16x1024x128_S1x256x128_5_0_0 _ (fun r => by omega) (fun d => by omega) fun r d => ?_
    unfold k0_pay29 k0_pay27
    pointwise
    exact Finset.sum_congr rfl fun k _ => congrArg₂ (· * ·) rfl (congrArg (fun q => x2 (ix2 k q)) (Fin.ext (by show 512 + (128 + d.val) = 640 + d.val; omega)))
  · refine slab _ _ 4 0 inb_S16x1024x128_S1x256x128_4_0_0 _ (fun r => by omega) (fun d => by omega) fun r d => ?_
    unfold k0_pay28 k0_pay27
    pointwise
  · refine slab _ _ 3 0 inb_S16x1024x128_S1x256x128_3_0_0 _ (fun r => by omega) (fun d => by omega) fun r d => ?_
    unfold k0_pay26 k0_pay22
    pointwise
  · refine slab _ _ 2 0 inb_S16x1024x128_S1x256x128_2_0_0 _ (fun r => by omega) (fun d => by omega) fun r d => ?_
    unfold k0_pay25 k0_pay22
    pointwise
  · refine slab _ _ 1 0 inb_S16x1024x128_S1x256x128_1_0_0 _ (fun r => by omega) (fun d => by omega) fun r d => ?_
    unfold k0_pay24 k0_pay22
    pointwise
  · refine slab _ _ 0 0 inb_S16x1024x128_S1x256x128_0_0_0 _ (fun r => by omega) (fun d => by omega) fun r d => ?_
    unfold k0_pay23 k0_pay22
    pointwise

theorem out9 : out0_A_9 c i a1 h1 a2 h2 a3 h3 a4 h4 a5 h5 a6 h6 a7 h7 a8 h8 a9 h9 a10 h10 a11 h11 a12 h12 a13 h13 x0 x1 x2 x3 x4 x5 x6 = x3 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 x0 x1 x2 x3 x4 x5 x6)]
  unfold kernelRun0_A
  dsimp only
  sl_unfold_words
  rw [View.canon_cons_unit_zero (S := S128x1024) hz]
  simp only [View.readAt_eq_ld, h4.read_unread, View.ld_unit_zero (S := S128x1024) hz]
  rfl

theorem out10 : out0_A_10 c i a1 h1 a2 h2 a3 h3 a4 h4 a5 h5 a6 h6 a7 h7 a8 h8 a9 h9 a10 h10 a11 h11 a12 h12 a13 h13 x0 x1 x2 x3 x4 x5 x6 = x4 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 x0 x1 x2 x3 x4 x5 x6)]
  unfold kernelRun0_A
  dsimp only
  sl_unfold_words
  rw [View.canon_cons_unit_zero (S := S128x1024) hz]
  simp only [View.readAt_eq_ld, h5.read_unread, View.ld_unit_zero (S := S128x1024) hz]
  rfl

theorem out11 : out0_A_11 c i a1 h1 a2 h2 a3 h3 a4 h4 a5 h5 a6 h6 a7 h7 a8 h8 a9 h9 a10 h10 a11 h11 a12 h12 a13 h13 x0 x1 x2 x3 x4 x5 x6 = x5 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 x0 x1 x2 x3 x4 x5 x6)]
  unfold kernelRun0_A
  dsimp only
  sl_unfold_words
  rw [View.canon_cons_unit_zero (S := S128x1024) hz]
  simp only [View.readAt_eq_ld, h6.read_unread, View.ld_unit_zero (S := S128x1024) hz]
  rfl

theorem out12 : out0_A_12 c i a1 h1 a2 h2 a3 h3 a4 h4 a5 h5 a6 h6 a7 h7 a8 h8 a9 h9 a10 h10 a11 h11 a12 h12 a13 h13 x0 x1 x2 x3 x4 x5 x6 = x6 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 x0 x1 x2 x3 x4 x5 x6)]
  unfold kernelRun0_A
  dsimp only
  sl_unfold_words
  rw [View.canon_cons_unit_zero (S := S128x2048) hz]
  simp only [View.readAt_eq_ld, h7.read_unread, View.ld_unit_zero (S := S128x2048) hz]
  rfl

end Cert.Vg

end
-- ==== Proof.Vg.lean ====
/- The value-and-gate projection as a whole: the arrays the 16 blocks of rows make up, and the reference's. -/
module

public import proofs.«01_k».proof.Defs
public import proofs.«01_k».proof.Proof.VgBody
public import proofs.«01_k».proof.Proof.Gen.Reference4Ideal.Run

@[expose] public section

set_option maxRecDepth 16384

noncomputable section

namespace Cert.Vg

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ) (c : Dev nD)

abbrev X : S16384x2048.Idx → EReal := m ((c : Thread nD τ).loc main_arg0)
abbrev G : S2048.Idx → EReal := m ((c : Thread nD τ).loc main_arg1)
abbrev W : S2048x2048.Idx → EReal := m ((c : Thread nD τ).loc main_arg2)
abbrev Wi : S2048x5120.Idx → EReal := m ((c : Thread nD τ).loc main_arg3)
abbrev Wo : S2048x2048.Idx → EReal := m ((c : Thread nD τ).loc main_arg4)

theorem idx : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = t.val ∧ win0_3.index t 1 = 2
    ∧ win0_4.index t 0 = t.val ∧ win0_4.index t 1 = 3 ∧ win0_5.index t 0 = t.val ∧ win0_5.index t 1 = 4
    ∧ win0_6.index t 0 = t.val ∧ win0_6.index t 1 = 0 := by
  decide +kernel

theorem idxo : ∀ t : Fin cfg0.N, win0_8.index t 0 = t.val ∧ win0_8.index t 1 = 0 ∧ win0_9.index t 0 = t.val ∧ win0_9.index t 1 = 0
    ∧ win0_10.index t 0 = t.val ∧ win0_10.index t 1 = 0 ∧ win0_11.index t 0 = t.val ∧ win0_11.index t 1 = 0
    ∧ win0_12.index t 0 = t.val ∧ win0_12.index t 1 = 0 := by
  decide +kernel

theorem idx7 : ∀ t : Fin cfg0.N, win0_7.index t 0 = 0 ∧ win0_7.index t 1 = t.val ∧ win0_7.index t 2 = 0 := by
  decide +kernel

theorem blk0 (t : Fin cfg0.N) (r : Fin 1024) (k : Fin 2048) (h : t.val * 1024 + r.val < 16384) :
    (iblk m c 0 t : Vec Ideal S1024x2048 .f32) (ix2 r k) = X m c (ix2 ⟨t.val * 1024 + r.val, h⟩ k) := by
  blk_ext [iblk, V, idx t]

theorem blk1 (t : Fin cfg0.N) (k : Fin 2048) :
    (iblk m c 1 t : Vec Ideal S1x2048 .f32) (ix2 0 k) = G m c (ix1 k) := by
  blk_ext! [iblk, V, idx t]

theorem blk2 (t : Fin cfg0.N) (k : Fin 2048) (j : Fin 2048) :
    (iblk m c 2 t : Vec Ideal S2048x2048 .bf16) (ix2 k j) = W m c (ix2 k j) := by
  blk_ext [iblk, V, idx t]

theorem blk3 (t : Fin cfg0.N) (r : Fin 128) (k : Fin 1024) (h : t.val * 128 + r.val < 2048) (h' : 2048 + k.val < 5120) :
    (iblk m c 3 t : Vec Ideal S128x1024 .f32) (ix2 r k) = Wi m c (ix2 ⟨t.val * 128 + r.val, h⟩ ⟨2048 + k.val, h'⟩) := by
  blk_ext [iblk, V, idx t]

theorem blk4 (t : Fin cfg0.N) (r : Fin 128) (k : Fin 1024) (h : t.val * 128 + r.val < 2048) (h' : 3072 + k.val < 5120) :
    (iblk m c 4 t : Vec Ideal S128x1024 .f32) (ix2 r k) = Wi m c (ix2 ⟨t.val * 128 + r.val, h⟩ ⟨3072 + k.val, h'⟩) := by
  blk_ext [iblk, V, idx t]

theorem blk5 (t : Fin cfg0.N) (r : Fin 128) (k : Fin 1024) (h : t.val * 128 + r.val < 2048) (h' : 4096 + k.val < 5120) :
    (iblk m c 5 t : Vec Ideal S128x1024 .f32) (ix2 r k) = Wi m c (ix2 ⟨t.val * 128 + r.val, h⟩ ⟨4096 + k.val, h'⟩) := by
  blk_ext [iblk, V, idx t]

theorem blk6 (t : Fin cfg0.N) (r : Fin 128) (k : Fin 2048) (h : t.val * 128 + r.val < 2048) :
    (iblk m c 6 t : Vec Ideal S128x2048 .f32) (ix2 r k) = Wo m c (ix2 ⟨t.val * 128 + r.val, h⟩ k) := by
  blk_ext [iblk, V, idx t]

/-- Every row normalised under the gain `g`. -/
def specRows (x : S16384x2048.Idx → EReal) (g : S2048.Idx → EReal) : S16384x2048.Idx → EReal := fun y =>
  norm (fun l => x (ix2 (y 0) l)) (fun l => g (ix1 l)) (y 1)

/-- The normalised rows against the columns of `w`, the 2048 columns taken as 16 groups of 128. -/
def specHeads (x : S16384x2048.Idx → EReal) (g : S2048.Idx → EReal) (w : S2048x2048.Idx → EReal) : S16x16384x128.Idx → EReal := fun y =>
  have h0 : (y 0).val < 16 := (y 0).isLt
  have h2 : (y 2).val < 128 := (y 2).isLt
  ∑ k : Fin 2048, norm (fun l => x (ix2 (y 1) l)) (fun l => g (ix1 l)) k * w (ix2 k ⟨(y 0).val * 128 + (y 2).val, by omega⟩)

/-- A thousand columns of `w` from column `o` on. -/
def specCols (o : ℕ) (ho : o + 1024 ≤ 5120) (w : S2048x5120.Idx → EReal) : S2048x1024.Idx → EReal := fun y =>
  have h1 : (y 1).val < 1024 := (y 1).isLt
  w (ix2 (y 0) ⟨o + (y 1).val, by omega⟩)

theorem norm_congr {x x' g g' : Fin 2048 → EReal} {k k' : Fin 2048} (hx : ∀ l, x l = x' l) (hg : ∀ l, g l = g' l) (hk : k.val = k'.val) :
    norm x g k = norm x' g' k' := by
  obtain rfl := funext hx
  obtain rfl := funext hg
  obtain rfl := Fin.ext hk
  rfl

theorem row_at (x : Vec Ideal S1024x2048 .f32) (X : S16384x2048.Idx → EReal) (o : ℕ) (r : Fin 1024) (z : Fin 16384) (hz : z.val = o + r.val)
    (hx : ∀ (r : Fin 1024) (k : Fin 2048) (h : o + r.val < 16384), x (ix2 r k) = X (ix2 ⟨o + r.val, h⟩ k)) (l : Fin 2048) :
    x (ix2 r l) = X (ix2 z l) := by
  have h : o + r.val < 16384 := hz ▸ z.isLt
  exact (hx r l h).trans (congrArg (fun q => X (ix2 q l)) (Fin.ext hz.symm))

theorem rows_at (x : Vec Ideal S1024x2048 .f32) (g : Vec Ideal S1x2048 .f32)
    (X : S16384x2048.Idx → EReal) (G : S2048.Idx → EReal) (y : S1024x2048.Idx) (z : S16384x2048.Idx)
    (o : ℕ) (h0 : (z 0).val = o + (y 0).val) (h1 : (z 1).val = (y 1).val)
    (hx : ∀ (r : Fin 1024) (k : Fin 2048) (h : o + r.val < 16384), x (ix2 r k) = X (ix2 ⟨o + r.val, h⟩ k))
    (hg : ∀ k, g (ix2 0 k) = G (ix1 k)) : rowsOf x g y = specRows X G z :=
  norm_congr (row_at x X o (y 0) (z 0) h0 hx) hg h1.symm

theorem heads_at (x : Vec Ideal S1024x2048 .f32) (g : Vec Ideal S1x2048 .f32) (w : Vec Ideal S2048x2048 .bf16)
    (X : S16384x2048.Idx → EReal) (G : S2048.Idx → EReal) (W : S2048x2048.Idx → EReal) (y : S16x1024x128.Idx) (z : S16x16384x128.Idx)
    (o : ℕ) (h0 : (z 0).val = (y 0).val) (h1 : (z 1).val = o + (y 1).val) (h2 : (z 2).val = (y 2).val)
    (hx : ∀ (r : Fin 1024) (k : Fin 2048) (h : o + r.val < 16384), x (ix2 r k) = X (ix2 ⟨o + r.val, h⟩ k))
    (hg : ∀ k, g (ix2 0 k) = G (ix1 k)) (hw : ∀ k j, w (ix2 k j) = W (ix2 k j)) : heads (rowsOf x g) w y = specHeads X G W z := by
  unfold heads specHeads rowsOf
  refine Finset.sum_congr rfl fun k _ => congrArg₂ (· * ·) (norm_congr (row_at x X o (y 1) (z 1) h1 hx) hg rfl) ?_
  refine (hw _ _).trans (congrArg W (same fun a => ?_))
  match a with
  | ⟨0, _⟩ => rfl
  | ⟨1, _⟩ => show (y 0).val * 128 + (y 2).val = (z 0).val * 128 + (z 2).val; omega

theorem cols_at (o : ℕ) (ho : o + 1024 ≤ 5120) (x : Vec Ideal S128x1024 .f32) (X : S2048x5120.Idx → EReal) (y : S128x1024.Idx) (z : S2048x1024.Idx)
    (p : ℕ) (h0 : (z 0).val = p + (y 0).val) (h1 : (z 1).val = (y 1).val)
    (hx : ∀ (r : Fin 128) (k : Fin 1024) (h : p + r.val < 2048) (h' : o + k.val < 5120), x (ix2 r k) = X (ix2 ⟨p + r.val, h⟩ ⟨o + k.val, h'⟩)) :
    x y = specCols o ho X z := by
  have hz0 : (z 0).val < 2048 := (z 0).isLt
  have hy1 : (y 1).val < 1024 := (y 1).isLt
  refine (show x y = x (ix2 (y 0) (y 1)) from congrArg x (same fun b => by match b with | ⟨0, _⟩ => rfl | ⟨1, _⟩ => rfl)).trans ((hx _ _ (by omega) (by omega)).trans ?_)
  unfold specCols
  refine congrArg X (same fun a => ?_)
  match a with
  | ⟨0, _⟩ => exact h0.symm
  | ⟨1, _⟩ => exact congrArg (o + ·) h1.symm

theorem cast_at (x : Vec Ideal S128x2048 .f32) (X : S2048x2048.Idx → EReal) (y : S128x2048.Idx) (z : S2048x2048.Idx)
    (o : ℕ) (h0 : (z 0).val = o + (y 0).val) (h1 : (z 1).val = (y 1).val)
    (hx : ∀ (r : Fin 128) (k : Fin 2048) (h : o + r.val < 2048), x (ix2 r k) = X (ix2 ⟨o + r.val, h⟩ k)) : x y = X z := by
  have hz0 : (z 0).val < 2048 := (z 0).isLt
  refine (show x y = x (ix2 (y 0) (y 1)) from congrArg x (same fun b => by match b with | ⟨0, _⟩ => rfl | ⟨1, _⟩ => rfl)).trans ((hx _ _ (by omega)).trans (congrArg X (same fun a => ?_)))
  match a with
  | ⟨0, _⟩ => exact h0.symm
  | ⟨1, _⟩ => exact h1.symm

theorem left7 (t : Fin cfg0.N) : (outsAt0 m c t).1 = (heads (rowsOf (iblk m c 0 t) (iblk m c 1 t)) (iblk m c 2 t) : Vec Ideal S16x1024x128 .bf16) := by
  unfold outsAt0
  dsimp only
  exact out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t)

theorem final7 : (dats m 0 c).arrAt 7 cfg0.N = specHeads (X m c) (G m c) (W m c) := by
  refine (dats m 0 c).arrAt_eq_of_covers 7 _ (by decide +kernel) fun t hf y => ?_
  rw [after0_7, left7]
  refine heads_at _ _ _ _ _ _ _ _ (t.val * 1024) ?_ ?_ ?_ (fun r k h => blk0 m c t r k h) (blk1 m c t) (blk2 m c t)
  · blk_simp
    rw [(idx7 t).1, Nat.zero_mul, Nat.zero_add]
    first | done | rfl
  · blk_simp
    rw [(idx7 t).2.1]
  · blk_simp
    rw [(idx7 t).2.2, Nat.zero_mul, Nat.zero_add]
    first | done | rfl

theorem left8 (t : Fin cfg0.N) : (outsAt0 m c t).2.1 = (rowsOf (iblk m c 0 t) (iblk m c 1 t) : Vec Ideal S1024x2048 .bf16) := by
  unfold outsAt0
  dsimp only
  exact out8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t)

theorem final8 : (dats m 0 c).arrAt 8 cfg0.N = specRows (X m c) (G m c) := by
  refine (dats m 0 c).arrAt_eq_of_covers 8 _ (by decide +kernel) fun t hf y => ?_
  rw [after0_8, left8]
  refine rows_at _ _ _ _ _ _ (t.val * 1024) ?_ ?_ (fun r k h => blk0 m c t r k h) (blk1 m c t)
  · blk_simp
    rw [(idxo t).1]
  · blk_simp
    rw [(idxo t).2.1]
    rw [Nat.zero_mul, Nat.zero_add]
    first | done | rfl

theorem left9 (t : Fin cfg0.N) : (outsAt0 m c t).2.2.1 = (iblk m c 3 t : Vec Ideal S128x1024 .bf16) := by
  unfold outsAt0
  dsimp only
  exact out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t)

theorem final9 : (dats m 0 c).arrAt 9 cfg0.N = specCols 2048 (by decide) (Wi m c) := by
  refine (dats m 0 c).arrAt_eq_of_covers 9 _ (by decide +kernel) fun t hf y => ?_
  rw [after0_9, left9]
  refine cols_at 2048 (by decide) _ _ _ _ (t.val * 128) ?_ ?_ (blk3 m c t)
  · blk_simp
    rw [(idxo t).2.2.1]
  · blk_simp
    rw [(idxo t).2.2.2.1]
    rw [Nat.zero_mul, Nat.zero_add]
    first | done | rfl

theorem left10 (t : Fin cfg0.N) : (outsAt0 m c t).2.2.2.1 = (iblk m c 4 t : Vec Ideal S128x1024 .bf16) := by
  unfold outsAt0
  dsimp only
  exact out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t)

theorem final10 : (dats m 0 c).arrAt 10 cfg0.N = specCols 3072 (by decide) (Wi m c) := by
  refine (dats m 0 c).arrAt_eq_of_covers 10 _ (by decide +kernel) fun t hf y => ?_
  rw [after0_10, left10]
  refine cols_at 3072 (by decide) _ _ _ _ (t.val * 128) ?_ ?_ (blk4 m c t)
  · blk_simp
    rw [(idxo t).2.2.2.2.1]
  · blk_simp
    rw [(idxo t).2.2.2.2.2.1]
    rw [Nat.zero_mul, Nat.zero_add]
    first | done | rfl

theorem left11 (t : Fin cfg0.N) : (outsAt0 m c t).2.2.2.2.1 = (iblk m c 5 t : Vec Ideal S128x1024 .bf16) := by
  unfold outsAt0
  dsimp only
  exact out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t)

theorem final11 : (dats m 0 c).arrAt 11 cfg0.N = specCols 4096 (by decide) (Wi m c) := by
  refine (dats m 0 c).arrAt_eq_of_covers 11 _ (by decide +kernel) fun t hf y => ?_
  rw [after0_11, left11]
  refine cols_at 4096 (by decide) _ _ _ _ (t.val * 128) ?_ ?_ (blk5 m c t)
  · blk_simp
    rw [(idxo t).2.2.2.2.2.2.1]
  · blk_simp
    rw [(idxo t).2.2.2.2.2.2.2.1]
    rw [Nat.zero_mul, Nat.zero_add]
    first | done | rfl

theorem left12 (t : Fin cfg0.N) : (outsAt0 m c t).2.2.2.2.2 = (iblk m c 6 t : Vec Ideal S128x2048 .bf16) := by
  unfold outsAt0
  dsimp only
  exact out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t)

theorem final12 : (dats m 0 c).arrAt 12 cfg0.N = Wo m c := by
  refine (dats m 0 c).arrAt_eq_of_covers 12 _ (by decide +kernel) fun t hf y => ?_
  rw [after0_12, left12]
  refine cast_at _ _ _ _ (t.val * 128) ?_ ?_ (blk6 m c t)
  · blk_simp
    rw [(idxo t).2.2.2.2.2.2.2.2.1]
  · blk_simp
    rw [(idxo t).2.2.2.2.2.2.2.2.2]
    rw [Nat.zero_mul, Nat.zero_add]
    first | done | rfl

end Cert.Vg

namespace Cert.VgRef

open Cert.Reference4Ideal Cert.Reference4Ideal.Gen Cert.Reference4Ideal.Value Idealize.ShloMosaic Idealize.ShloMosaic.TcCoe Idealize.SL.Sem

theorem idx2 {n k : ℕ} (i : (⟨2, ![n, k]⟩ : Shape).Idx) : ∃ r d, i = ix2 r d :=
  ⟨i 0, i 1, funext fun a => by fin_cases a <;> rfl⟩

theorem idx3 {n k l : ℕ} (i : (⟨3, ![n, k, l]⟩ : Shape).Idx) : ∃ r d e, i = ix3 r d e :=
  ⟨i 0, i 1, i 2, funext fun a => by fin_cases a <;> rfl⟩

theorem final0 (x : FVec Ideal S16384x2048 .f32) (g : FVec Ideal S2048 .f32) (w : FVec Ideal S2048x2048 .bf16) :
    truncf .bf16 (transpose S16x16384x128 [1, 0, 2] (shapeCast _ (Host.dotGeneral dot_S16384x2048_S2048x2048_S16384x2048_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) (extf .f32 w bitsLt_bf16_f32)) shapeCasts_S16384x2048_S16384x16x128) transposes_S16384x16x128_S16x16384x128_1_0_2) bitsLt_bf16_f32
      = Vg.specHeads x g w := by
  funext i
  obtain ⟨h, r, d, rfl⟩ := idx3 i
  unfold Vg.specHeads Vg.norm
  pointwise

theorem final1 (x : FVec Ideal S16384x2048 .f32) (g : FVec Ideal S2048 .f32) :
    truncf .bf16 (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))) bitsLt_bf16_f32
      = Vg.specRows x g := by
  funext i
  obtain ⟨r, d, rfl⟩ := idx2 i
  unfold Vg.specRows Vg.norm
  pointwise

theorem final2 (wi : FVec Ideal S2048x5120 .f32) :
    truncf .bf16 (extractStridedSlice S2048x1024 ![0, 2048] wi slices_S2048x5120_S2048x1024_0_2048) bitsLt_bf16_f32
      = Vg.specCols 2048 (by decide) wi := by
  funext i
  obtain ⟨r, d, rfl⟩ := idx2 i
  unfold Vg.specCols
  pointwise

theorem final3 (wi : FVec Ideal S2048x5120 .f32) :
    truncf .bf16 (extractStridedSlice S2048x1024 ![0, 3072] wi slices_S2048x5120_S2048x1024_0_3072) bitsLt_bf16_f32
      = Vg.specCols 3072 (by decide) wi := by
  funext i
  obtain ⟨r, d, rfl⟩ := idx2 i
  unfold Vg.specCols
  pointwise

theorem final4 (wi : FVec Ideal S2048x5120 .f32) :
    truncf .bf16 (extractStridedSlice S2048x1024 ![0, 4096] wi slices_S2048x5120_S2048x1024_0_4096) bitsLt_bf16_f32
      = Vg.specCols 4096 (by decide) wi := by
  funext i
  obtain ⟨r, d, rfl⟩ := idx2 i
  unfold Vg.specCols
  pointwise

end Cert.VgRef

end
-- ==== Proof.VgRun.lean ====
module

public import proofs.«01_k».proof.Defs
public import proofs.«01_k».proof.Proof.Vg
public import proofs.«01_k».proof.Proof.Gen.Kernel4Ideal.Value
public import proofs.«01_k».proof.Proof.Gen.Reference4Ideal.Run

@[expose] public section

noncomputable section

namespace Cert.Proof

open Idealize.ShloMosaic Idealize.SL.Sem

/-- The reference keeps its arguments and leaves every counter at zero. -/
theorem frameRef4 : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- The projection and its reference leave the same six arrays. -/
theorem algebraic4 : Cert.algebraic_Kernel4Ideal_Reference4Ideal
    (hKernel4Ideal := Cert.Kernel4Ideal.Gen.facts) (hReference4Ideal := Cert.Reference4Ideal.Gen.facts) := by
  intro m ρ m' ρ' _ hag
  refine ⟨fun c => Cert.Vg.specHeads (Cert.Vg.X m c) (Cert.Vg.G m c) (Cert.Vg.W m c),
    fun c => Cert.Vg.specRows (Cert.Vg.X m c) (Cert.Vg.G m c),
    fun c => Cert.Vg.specCols 2048 (by decide) (Cert.Vg.Wi m c), fun c => Cert.Vg.specCols 3072 (by decide) (Cert.Vg.Wi m c),
    fun c => Cert.Vg.specCols 4096 (by decide) (Cert.Vg.Wi m c), fun c => Cert.Vg.Wo m c, ?_, ?_⟩
  · exact (θ_run _ _ _).mono (fun r h c => ⟨(h c).1.trans (Cert.Vg.final7 m c), (h c).2.1.trans (Cert.Vg.final8 m c),
      (h c).2.2.1.trans (Cert.Vg.final9 m c), (h c).2.2.2.1.trans (Cert.Vg.final10 m c),
      (h c).2.2.2.2.1.trans (Cert.Vg.final11 m c), (h c).2.2.2.2.2.1.trans (Cert.Vg.final12 m c), (h c).2.2.2.2.2.2⟩)
      (Cert.Kernel4Ideal.Value.run_blocks m ρ)
  · refine (θ_run _ _ _).mono (fun r h c => ?_) (Cert.Reference4Ideal.Value.run (F := Ideal) m' ρ')
    obtain ⟨h0, h1, h2, h3, h4⟩ := hag c
    refine ⟨(h c).1.trans ((Cert.VgRef.final0 _ _ _).trans ?_), (h c).2.1.trans ((Cert.VgRef.final1 _ _).trans ?_),
      (h c).2.2.1.trans ((Cert.VgRef.final2 _).trans ?_), (h c).2.2.2.1.trans ((Cert.VgRef.final3 _).trans ?_),
      (h c).2.2.2.2.1.trans ((Cert.VgRef.final4 _).trans ?_), (h c).2.2.2.2.2.1.trans ?_, (h c).2.2.2.2.2.2⟩
    · unfold Cert.Vg.X Cert.Vg.G Cert.Vg.W
      exact congr (congr (congrArg Cert.Vg.specHeads h0) h1) h2
    · unfold Cert.Vg.X Cert.Vg.G
      exact congr (congrArg Cert.Vg.specRows h0) h1
    · exact congrArg (Cert.Vg.specCols 2048 (by decide)) h3
    · exact congrArg (Cert.Vg.specCols 3072 (by decide)) h3
    · exact congrArg (Cert.Vg.specCols 4096 (by decide)) h3
    · exact h4

end Cert.Proof

end
-- ==== Proof.Out.lean ====
/- The output projection: the rows of the two groups against their halves of the weight, onto the residual, and the
   reference's. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Out

open Cert.Kernel5Ideal Cert.Kernel5Ideal.Gen Cert.Kernel5Ideal.Value Idealize.ShloMosaic Idealize.ShloMosaic.TcCoe Idealize.SL.Sem

theorem hz : (![0, 0] : Fin 2 → Nat) = fun _ => 0 := funext fun a => by fin_cases a <;> rfl

/-- Two indices are one when their coordinates are. -/
theorem same {S : Shape} {x y : S.Idx} (h : ∀ a, (x a).val = (y a).val) : x = y := funext fun a => Fin.ext (h a)

/-- The 1024 rows of a block: the residual and the two products. -/
def rowsOf (x : Vec Ideal S1024x2048 .f32) (yc ya : Vec Ideal S1024x1024 .bf16) (wc wa : Vec Ideal S1024x2048 .bf16) : S1024x2048.Idx → EReal :=
  fun y => x y + ((∑ k : Fin 1024, yc (ix2 (y 0) k) * wc (ix2 k (y 1))) + ∑ k : Fin 1024, ya (ix2 (y 0) k) * wa (ix2 k (y 1)))

/-- Five hundred and twelve rows from row `ro` on. -/
theorem strip (G : S1024x2048.Idx → EReal) (ro : ℕ) (inb : ∀ a, (![ro, 0] : Fin 2 → ℕ) a + S512x2048.size a ≤ S1024x2048.size a)
    (P : S512x2048.Idx → EReal) (h : ∀ r : Fin 512, ro + r.val < 1024)
    (hP : ∀ (r : Fin 512) (d : Fin 2048), P (ix2 r d) = G (ix2 ⟨ro + r.val, h r⟩ d)) (y : S512x2048.Idx) :
    P y = G ((Rect.unit (s := S1024x2048) ![ro, 0] S512x2048.size inb).emb y) := by
  refine (show P y = P (ix2 (y 0) (y 1)) from congrArg P (same fun b => by fin_cases b <;> rfl)).trans ((hP _ _).trans (congrArg G (same fun a => ?_)))
  refine Eq.trans ?_ (Rect.idx_unit_val (s := S1024x2048) ![ro, 0] S512x2048.size inb y a).symm
  match a with
  | ⟨0, _⟩ => rfl
  | ⟨1, _⟩ => exact (Nat.zero_add _).symm

variable (x : Vec Ideal S1024x2048 .f32) (yc ya : Vec Ideal S1024x1024 .bf16) (wc wa : Vec Ideal S1024x2048 .bf16)

theorem out_eq : out0_5 x yc ya wc wa = rowsOf x yc ya wc wa := by
  unfold out0_5
  funext y
  refine View.canon_apply_of_pieces _ _ ?_ y (cover0_5 _ _ y)
  refine List.forall_mem_cons.2 ⟨?_, List.forall_mem_cons.2 ⟨?_, List.forall_mem_nil _⟩⟩
  · refine strip _ 512 inb_S1024x2048_S512x2048_512_0 _ (fun r => by omega) fun r d => ?_
    unfold rowsOf k0_pay2
    pointwise
  · refine strip _ 0 inb_S1024x2048_S512x2048_0_0 _ (fun r => by omega) fun r d => ?_
    unfold rowsOf k0_pay1
    pointwise

variable (m : (ℓ : Loc nD τ sig) → Buf (Elt Ideal) ℓ) (c : Dev nD)

abbrev X : S16384x2048.Idx → EReal := m ((c : Thread nD τ).loc main_arg0)
abbrev Yc : S16384x1024.Idx → EReal := m ((c : Thread nD τ).loc main_arg1)
abbrev Ya : S16384x1024.Idx → EReal := m ((c : Thread nD τ).loc main_arg2)
abbrev W : S2048x2048.Idx → EReal := m ((c : Thread nD τ).loc main_arg3)

theorem idx : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = 1 ∧ win0_4.index t 1 = 0 := by
  decide +kernel

theorem idxo : ∀ t : Fin cfg0.N, win0_5.index t 0 = t.val ∧ win0_5.index t 1 = 0 := by
  decide +kernel

theorem blk0 (t : Fin cfg0.N) (r : Fin 1024) (k : Fin 2048) (h : t.val * 1024 + r.val < 16384) :
    (iblk m c 0 t : Vec Ideal S1024x2048 .f32) (ix2 r k) = X m c (ix2 ⟨t.val * 1024 + r.val, h⟩ k) := by
  blk_ext [iblk, V, idx t]

theorem blk1 (t : Fin cfg0.N) (r : Fin 1024) (k : Fin 1024) (h : t.val * 1024 + r.val < 16384) :
    (iblk m c 1 t : Vec Ideal S1024x1024 .bf16) (ix2 r k) = Yc m c (ix2 ⟨t.val * 1024 + r.val, h⟩ k) := by
  blk_ext [iblk, V, idx t]

theorem blk2 (t : Fin cfg0.N) (r : Fin 1024) (k : Fin 1024) (h : t.val * 1024 + r.val < 16384) :
    (iblk m c 2 t : Vec Ideal S1024x1024 .bf16) (ix2 r k) = Ya m c (ix2 ⟨t.val * 1024 + r.val, h⟩ k) := by
  blk_ext [iblk, V, idx t]

theorem blk3 (t : Fin cfg0.N) (k : Fin 1024) (j : Fin 2048) (h : k.val < 2048) :
    (iblk m c 3 t : Vec Ideal S1024x2048 .bf16) (ix2 k j) = W m c (ix2 ⟨k.val, h⟩ j) := by
  blk_ext [iblk, V, idx t]

theorem blk4 (t : Fin cfg0.N) (k : Fin 1024) (j : Fin 2048) (h : 1024 + k.val < 2048) :
    (iblk m c 4 t : Vec Ideal S1024x2048 .bf16) (ix2 k j) = W m c (ix2 ⟨1024 + k.val, h⟩ j) := by
  blk_ext [iblk, V, idx t]

/-- The residual and both groups' rows against the weight, the first group's against its first thousand rows. -/
def spec (x : S16384x2048.Idx → EReal) (yc ya : S16384x1024.Idx → EReal) (w : S2048x2048.Idx → EReal) : S16384x2048.Idx → EReal := fun y =>
  x y + ((∑ k : Fin 1024, yc (ix2 (y 0) k) * w (ix2 ⟨k.val, by omega⟩ (y 1))) + ∑ k : Fin 1024, ya (ix2 (y 0) k) * w (ix2 ⟨1024 + k.val, by omega⟩ (y 1)))

theorem row_at {n : ℕ} (x : (⟨2, ![1024, n]⟩ : Shape).Idx → EReal) (X : (⟨2, ![16384, n]⟩ : Shape).Idx → EReal) (o : ℕ) (r : Fin 1024) (z : Fin 16384) (hz : z.val = o + r.val)
    (hx : ∀ (r : Fin 1024) (k : Fin n) (h : o + r.val < 16384), x (ix2 r k) = X (ix2 ⟨o + r.val, h⟩ k)) (l : Fin n) :
    x (ix2 r l) = X (ix2 z l) := by
  have h : o + r.val < 16384 := hz ▸ z.isLt
  exact (hx r l h).trans (congrArg (fun q => X (ix2 q l)) (Fin.ext hz.symm))

theorem rows_at (X : S16384x2048.Idx → EReal) (Yc Ya : S16384x1024.Idx → EReal) (W : S2048x2048.Idx → EReal) (y : S1024x2048.Idx) (z : S16384x2048.Idx)
    (o : ℕ) (h0 : (z 0).val = o + (y 0).val) (h1 : (z 1).val = (y 1).val)
    (hx : ∀ (r : Fin 1024) (k : Fin 2048) (h : o + r.val < 16384), x (ix2 r k) = X (ix2 ⟨o + r.val, h⟩ k))
    (hc : ∀ (r : Fin 1024) (k : Fin 1024) (h : o + r.val < 16384), yc (ix2 r k) = Yc (ix2 ⟨o + r.val, h⟩ k))
    (ha : ∀ (r : Fin 1024) (k : Fin 1024) (h : o + r.val < 16384), ya (ix2 r k) = Ya (ix2 ⟨o + r.val, h⟩ k))
    (hwc : ∀ (k : Fin 1024) (j : Fin 2048) (h : k.val < 2048), wc (ix2 k j) = W (ix2 ⟨k.val, h⟩ j))
    (hwa : ∀ (k : Fin 1024) (j : Fin 2048) (h : 1024 + k.val < 2048), wa (ix2 k j) = W (ix2 ⟨1024 + k.val, h⟩ j)) :
    rowsOf x yc ya wc wa y = spec X Yc Ya W z := by
  have e1 : z 1 = y 1 := Fin.ext h1
  unfold rowsOf spec
  refine congrArg₂ (· + ·) ?_ (congrArg₂ (· + ·) (Finset.sum_congr rfl fun k _ => congrArg₂ (· * ·) (row_at yc Yc o (y 0) (z 0) h0 hc k) ?_)
    (Finset.sum_congr rfl fun k _ => congrArg₂ (· * ·) (row_at ya Ya o (y 0) (z 0) h0 ha k) ?_))
  · refine (show x y = x (ix2 (y 0) (y 1)) from congrArg x (same fun b => by match b with | ⟨0, _⟩ => rfl | ⟨1, _⟩ => rfl)).trans ((row_at x X o (y 0) (z 0) h0 hx (y 1)).trans (congrArg X (same fun b => ?_)))
    match b with
    | ⟨0, _⟩ => rfl
    | ⟨1, _⟩ => exact h1.symm
  · exact (hwc k (y 1) _).trans (congrArg (fun q => W (ix2 _ q)) e1.symm)
  · exact (hwa k (y 1) _).trans (congrArg (fun q => W (ix2 _ q)) e1.symm)

theorem final : (dats m 0 c).arrAt 5 cfg0.N = spec (X m c) (Yc m c) (Ya m c) (W m c) := by
  refine (dats m 0 c).arrAt_eq_of_covers 5 _ (by decide +kernel) fun t hf y => ?_
  rw [after0_5, out_eq]
  refine rows_at _ _ _ _ _ _ _ _ _ _ _ (t.val * 1024) ?_ ?_ (fun r k h => blk0 m c t r k h) (fun r k h => blk1 m c t r k h)
    (fun r k h => blk2 m c t r k h) (fun k j h => blk3 m c t k j h) (fun k j h => blk4 m c t k j h)
  · blk_simp
    rw [(idxo t).1]
  · blk_simp
    rw [(idxo t).2]
    rw [Nat.zero_mul, Nat.zero_add]
    first | done | rfl

end Cert.Out

namespace Cert.OutRef

open Cert.Reference5Ideal Cert.Reference5Ideal.Gen Cert.Reference5Ideal.Value Idealize.ShloMosaic Idealize.ShloMosaic.TcCoe Idealize.SL.Sem

theorem idx2 {n k : ℕ} (i : (⟨2, ![n, k]⟩ : Shape).Idx) : ∃ r d, i = ix2 r d :=
  ⟨i 0, i 1, funext fun a => by fin_cases a <;> rfl⟩

/-- The rows side by side. -/
theorem beside (yc ya : FVec Ideal S16384x1024 .bf16) (r : Fin 16384) (k : Fin 2048) :
    (concatenate S16384x2048 1 [⟨S16384x1024, yc⟩, ⟨S16384x1024, ya⟩] concatenates_S16384x1024_S16384x1024_S16384x2048_d1 : FVec Ideal S16384x2048 .bf16) (ix2 r k)
      = if h : k.val < 1024 then yc (ix2 r ⟨k.val, h⟩) else ya (ix2 r ⟨k.val - 1024, by omega⟩) := by
  pointwise

theorem final (x : FVec Ideal S16384x2048 .f32) (yc ya : FVec Ideal S16384x1024 .bf16) (w : FVec Ideal S2048x2048 .bf16) :
    addf x (Host.dotGeneral dot_S16384x2048_S2048x2048_S16384x2048_1_0_0_1_n_n none (extf .f32 (concatenate S16384x2048 1 [⟨S16384x1024, yc⟩, ⟨S16384x1024, ya⟩] concatenates_S16384x1024_S16384x1024_S16384x2048_d1) bitsLt_bf16_f32) (extf .f32 w bitsLt_bf16_f32))
      = Out.spec x yc ya w := by
  have e : (concatenate S16384x2048 1 [⟨S16384x1024, yc⟩, ⟨S16384x1024, ya⟩] concatenates_S16384x1024_S16384x1024_S16384x2048_d1 : FVec Ideal S16384x2048 .bf16)
      = fun i => if h : (i 1).val < 1024 then yc (ix2 (i 0) ⟨(i 1).val, h⟩) else ya (ix2 (i 0) ⟨(i 1).val - 1024, by have h1 : (i 1).val < 2048 := (i 1).isLt; omega⟩) := by
    funext i
    obtain ⟨r, k, rfl⟩ := idx2 i
    exact beside yc ya r k
  rw [e]
  funext i
  obtain ⟨r, d, rfl⟩ := idx2 i
  unfold Out.spec
  pointwise

end Cert.OutRef

end
-- ==== Proof.OutRun.lean ====
module

public import proofs.«01_k».proof.Defs
public import proofs.«01_k».proof.Proof.Out
public import proofs.«01_k».proof.Proof.Gen.Kernel5Ideal.Value
public import proofs.«01_k».proof.Proof.Gen.Reference5Ideal.Run

@[expose] public section

noncomputable section

namespace Cert.Proof

open Idealize.ShloMosaic Idealize.SL.Sem

/-- The reference keeps its arguments and leaves every counter at zero. -/
theorem frameRef5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The output projection and its reference leave the same rows. -/
theorem algebraic5 : Cert.algebraic_Kernel5Ideal_Reference5Ideal
    (hKernel5Ideal := Cert.Kernel5Ideal.Gen.facts) (hReference5Ideal := Cert.Reference5Ideal.Gen.facts) := by
  intro m ρ m' ρ' _ hag
  refine ⟨fun c => Cert.Out.spec (Cert.Out.X m c) (Cert.Out.Yc m c) (Cert.Out.Ya m c) (Cert.Out.W m c), ?_, ?_⟩
  · exact (θ_run _ _ _).mono (fun r h c => ⟨(h c).1.trans (Cert.Out.final m c), (h c).2⟩) (Cert.Kernel5Ideal.Value.run_blocks m ρ)
  · refine (θ_run _ _ _).mono (fun r h c => ⟨(h c).1.trans ((Cert.OutRef.final _ _ _ _).trans ?_), (h c).2⟩) (Cert.Reference5Ideal.Value.run (F := Ideal) m' ρ')
    obtain ⟨h0, h1, h2, h3⟩ := hag c
    unfold Cert.Out.X Cert.Out.Yc Cert.Out.Ya Cert.Out.W
    exact congr (congr (congr (congrArg Cert.Out.spec h0) h1) h2) h3

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Adequacy
public import Idealize.ShloMosaic.Init

public import proofs.«01_k».proof.Proof.AttnRun
public import proofs.«01_k».proof.Proof.FfnRun
public import proofs.«01_k».proof.Proof.QkvRun
public import proofs.«01_k».proof.Proof.VgRun
public import proofs.«01_k».proof.Proof.OutRun
@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.AttnPre.facts,
  fun m ρ _ => Cert.Kernel.Gen.frame m ρ,
  fun m ρ _ => Cert.KernelIdeal.Gen.frame m ρ,
  fun m ρ _ => Cert.KernelIdeal.Gen.frame m ρ,
  frameRef,
  fun m ρ _ => frameRef m ρ trivial,
  fun m ρ _ => Cert.Kernel2.Gen.frame m ρ,
  fun m ρ _ => Cert.Kernel2Ideal.Gen.frame m ρ,
  frameRef2,
  fun m ρ _ => Cert.Kernel3.Gen.frame m ρ,
  fun m ρ _ => Cert.Kernel3Ideal.Gen.frame m ρ,
  frameRef3,
  fun m ρ _ => Cert.Kernel4.Gen.frame m ρ,
  fun m ρ _ => Cert.Kernel4Ideal.Gen.frame m ρ,
  frameRef4,
  fun m ρ _ => Cert.Kernel5.Gen.frame m ρ,
  fun m ρ _ => Cert.Kernel5Ideal.Gen.frame m ρ,
  frameRef5,
  trivial, algebraic, trivial, algebraic2, preserves3, algebraic3, trivial, algebraic4, trivial, algebraic5⟩

end Cert.Proof

end
